-- ==== Defs.lean ====
def Pre_KernelIdeal (m : (ℓ : Loc Cert.KernelIdeal.nD Cert.KernelIdeal.τ Cert.KernelIdeal.sig) → Buf (Elt Ideal) ℓ) : Prop :=
  True

def Pre_KernelIdeal_finite_gating [hPre_finite_gating : Cert.Pre_finite_gating.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gating.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gating [hPre_finite_gating : Cert.Pre_finite_gating.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gating.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_gating [hKernelIdeal : Cert.KernelIdeal.Facts] [hPre_finite_gating : Cert.Pre_finite_gating.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gating m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_gating [hReferenceIdeal : Cert.ReferenceIdeal.Facts] [hPre_finite_gating : Cert.Pre_finite_gating.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gating m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def algebraic_KernelIdeal_ReferenceIdeal_pre_finite_gating [hKernelIdeal : Cert.KernelIdeal.Facts] [hReferenceIdeal : Cert.ReferenceIdeal.Facts] [hPre_finite_gating : Cert.Pre_finite_gating.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gating m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Gate_GateIdeal : Prop :=
  IdealRules.named_const.Statement Cert.GateIdeal.κ "inv_hw" .f32 0x37A72F05#32 ((50176⁻¹ : ℝ) : EReal)
  ∧ IdealRules.named_const.Statement Cert.GateIdeal.κ "mask" .f32 0xF149F2CA#32 ⊥

def preserves_Moe_MoeIdeal : Prop :=
  True

def Claim : Prop :=
  ∃ (hKernelIdeal : Cert.KernelIdeal.Facts) (hReferenceIdeal : Cert.ReferenceIdeal.Facts) (hGate : Cert.Gate.Facts) (hGateIdeal : Cert.GateIdeal.Facts) (hMoe : Cert.Moe.Facts) (hMoeIdeal : Cert.MoeIdeal.Facts) (hPre_finite_gating : Cert.Pre_finite_gating.Facts) (hPre_experts_in_range : Cert.Pre_experts_in_range.Facts),
    quiescent_KernelIdeal (hKernelIdeal := hKernelIdeal)
    ∧ quiescent_KernelIdeal_pre_finite_gating (hKernelIdeal := hKernelIdeal) (hPre_finite_gating := hPre_finite_gating)
    ∧ quiescent_ReferenceIdeal (hReferenceIdeal := hReferenceIdeal)
    ∧ quiescent_ReferenceIdeal_pre_finite_gating (hReferenceIdeal := hReferenceIdeal) (hPre_finite_gating := hPre_finite_gating)
    ∧ quiescent_Gate (hGate := hGate)
    ∧ quiescent_GateIdeal (hGateIdeal := hGateIdeal)
    ∧ quiescent_Moe (hMoe := hMoe) (hPre_experts_in_range := hPre_experts_in_range)
    ∧ quiescent_MoeIdeal (hMoeIdeal := hMoeIdeal) (hPre_experts_in_range := hPre_experts_in_range)
    ∧ algebraic_KernelIdeal_ReferenceIdeal_pre_finite_gating (hKernelIdeal := hKernelIdeal) (hReferenceIdeal := hReferenceIdeal) (hPre_finite_gating := hPre_finite_gating)
    ∧ preserves_Gate_GateIdeal
    ∧ preserves_Moe_MoeIdeal
-- ==== Pre_experts_in_range.lean ====
abbrev S4x3 : Shape := ⟨2, ![4, 3]⟩
abbrev S4x224x24576 : Shape := ⟨3, ![4, 224, 24576]⟩
abbrev S8x96x24576 : Shape := ⟨3, ![8, 96, 24576]⟩
abbrev S96x24576 : Shape := ⟨2, ![96, 24576]⟩
abbrev S4x3x1x96 : Shape := ⟨4, ![4, 3, 1, 96]⟩
abbrev S_ : Shape := ⟨0, ![]⟩

class Facts : Prop where
  bcast_S_S4x3 : S_.BroadcastsInDim S4x3 (![] : Fin 0 → Fin S4x3.rank)
  reducesTo_S4x3_S_d0_1 : S4x3.ReducesTo [0, 1] S_
  h_S_ : 0 < S_.numel

variable [Facts]

def fn {F : FTy → Type} [FloatOps F] (main_arg0 : IVec S4x3 32) (main_arg1 : FVec F S4x224x24576 .f32) (main_arg2 : FVec F S8x96x24576 .f32) (main_arg3 : FVec F S96x24576 .f32) (main_arg4 : FVec F S4x3x1x96 .f32) (main_arg5 : FVec F S4x3x1x96 .f32) (main_arg6 : FVec F S4x3x1x96 .f32) : IVec S_ 1 :=
  let main_c : IVec S_ 32 := constantI S_ 32 0#32
  let main_v0 : IVec S4x3 32 := broadcastInDim S4x3 ![] bcast_S_S4x3 main_c
  let main_v1 : IVec S4x3 1 := cmpi .sge main_arg0 main_v0
  let main_c_0 : IVec S_ 32 := constantI S_ 32 8#32
  let main_v2 : IVec S4x3 32 := broadcastInDim S4x3 ![] bcast_S_S4x3 main_c_0
  let main_v3 : IVec S4x3 1 := cmpi .slt main_arg0 main_v2
  let main_v4 : IVec S4x3 1 := andi main_v1 main_v3
  let main_c_1 : IVec S_ 1 := constantI S_ 1 1#1
  let main_v5 : IVec S_ 1 := (fun x v => Host.reduce IntOp.andi x v reducesTo_S4x3_S_d0_1 h_S_) main_v4 main_c_1
  main_v5
-- ==== Pre_finite_gating.lean ====
abbrev S4x96x224x224 : Shape := ⟨4, ![4, 96, 224, 224]⟩
abbrev S96x8 : Shape := ⟨2, ![96, 8]⟩
abbrev S8x96x96x16x16 : Shape := ⟨5, ![8, 96, 96, 16, 16]⟩
abbrev S8x96 : Shape := ⟨2, ![8, 96]⟩
abbrev S96x96x16x16 : Shape := ⟨4, ![96, 96, 16, 16]⟩
abbrev S96 : Shape := ⟨1, ![96]⟩
abbrev S_ : Shape := ⟨0, ![]⟩

class Facts : Prop where
  bcast_S_S4x96x224x224 : S_.BroadcastsInDim S4x96x224x224 (![] : Fin 0 → Fin S4x96x224x224.rank)
  reducesTo_S4x96x224x224_S_d0_1_2_3 : S4x96x224x224.ReducesTo [0, 1, 2, 3] S_
  h_S_ : 0 < S_.numel
  bcast_S_S96x8 : S_.BroadcastsInDim S96x8 (![] : Fin 0 → Fin S96x8.rank)
  reducesTo_S96x8_S_d0_1 : S96x8.ReducesTo [0, 1] S_

variable [Facts]

def fn {F : FTy → Type} [FloatOps F] (main_arg0 : FVec F S4x96x224x224 .f32) (main_arg1 : FVec F S96x8 .f32) (main_arg2 : FVec F S8x96x96x16x16 .f32) (main_arg3 : FVec F S8x96 .f32) (main_arg4 : FVec F S8x96 .f32) (main_arg5 : FVec F S8x96 .f32) (main_arg6 : FVec F S96x96x16x16 .f32) (main_arg7 : FVec F S96 .f32) (main_arg8 : FVec F S96 .f32) (main_arg9 : FVec F S96 .f32) : IVec S_ 1 :=
  let main_v0 : FVec F S4x96x224x224 .f32 := Host.absf main_arg0
  let main_cst : FVec F S_ .f32 := constant S_ .f32 0x7F800000#32
  let main_v1 : FVec F S4x96x224x224 .f32 := broadcastInDim S4x96x224x224 ![] bcast_S_S4x96x224x224 main_cst
  let main_v2 : IVec S4x96x224x224 1 := cmpf .olt main_v0 main_v1
  let main_c : IVec S_ 1 := constantI S_ 1 1#1
  let main_v3 : IVec S_ 1 := (fun x v => Host.reduce IntOp.andi x v reducesTo_S4x96x224x224_S_d0_1_2_3 h_S_) main_v2 main_c
  let main_v4 : FVec F S96x8 .f32 := Host.absf main_arg1
  let main_cst_0 : FVec F S_ .f32 := constant S_ .f32 0x7F800000#32
  let main_v5 : FVec F S96x8 .f32 := broadcastInDim S96x8 ![] bcast_S_S96x8 main_cst_0
  let main_v6 : IVec S96x8 1 := cmpf .olt main_v4 main_v5
  let main_c_1 : IVec S_ 1 := constantI S_ 1 1#1
  let main_v7 : IVec S_ 1 := (fun x v => Host.reduce IntOp.andi x v reducesTo_S96x8_S_d0_1 h_S_) main_v6 main_c_1
  let main_v8 : IVec S_ 1 := andi main_v3 main_v7
  main_v8
-- ==== KernelIdeal.lean ====
abbrev S4x96x224x224 : Shape := ⟨4, ![4, 96, 224, 224]⟩
abbrev S96x8 : Shape := ⟨2, ![96, 8]⟩
abbrev S8x96x96x16x16 : Shape := ⟨5, ![8, 96, 96, 16, 16]⟩
abbrev S8x96 : Shape := ⟨2, ![8, 96]⟩
abbrev S96x96x16x16 : Shape := ⟨4, ![96, 96, 16, 16]⟩
abbrev S96 : Shape := ⟨1, ![96]⟩
abbrev S4x224x24576 : Shape := ⟨3, ![4, 224, 24576]⟩
abbrev S4x1x8 : Shape := ⟨3, ![4, 1, 8]⟩
abbrev S1x96x16x224 : Shape := ⟨4, ![1, 96, 16, 224]⟩
abbrev S1x16x24576 : Shape := ⟨3, ![1, 16, 24576]⟩
abbrev S1x1x8 : Shape := ⟨3, ![1, 1, 8]⟩
abbrev S96x1 : Shape := ⟨2, ![96, 1]⟩
abbrev S96x16x224 : Shape := ⟨3, ![96, 16, 224]⟩
abbrev S1536x224 : Shape := ⟨2, ![1536, 224]⟩
abbrev S224x1536 : Shape := ⟨2, ![224, 1536]⟩
abbrev S14x16x1536 : Shape := ⟨3, ![14, 16, 1536]⟩
abbrev S14x1536x16 : Shape := ⟨3, ![14, 1536, 16]⟩
abbrev S14x24576 : Shape := ⟨2, ![14, 24576]⟩
abbrev S2x24576 : Shape := ⟨2, ![2, 24576]⟩
abbrev S16x24576 : Shape := ⟨2, ![16, 24576]⟩
abbrev S96x1x1 : Shape := ⟨3, ![96, 1, 1]⟩
abbrev S8 : Shape := ⟨1, ![8]⟩
abbrev S1x8 : Shape := ⟨2, ![1, 8]⟩
abbrev S1 : Shape := ⟨1, ![1]⟩
abbrev S1x1 : Shape := ⟨2, ![1, 1]⟩
abbrev S4x1x3 : Shape := ⟨3, ![4, 1, 3]⟩
abbrev S4x3 : Shape := ⟨2, ![4, 3]⟩
abbrev S8x96x24576 : Shape := ⟨3, ![8, 96, 24576]⟩
abbrev S96x24576 : Shape := ⟨2, ![96, 24576]⟩
abbrev S1x96 : Shape := ⟨2, ![1, 96]⟩
abbrev S9x96 : Shape := ⟨2, ![9, 96]⟩
abbrev S_ : Shape := ⟨0, ![]⟩
abbrev S4x3x1 : Shape := ⟨3, ![4, 3, 1]⟩
abbrev S4x3x96 : Shape := ⟨3, ![4, 3, 96]⟩
abbrev S4x3x1x96 : Shape := ⟨4, ![4, 3, 1, 96]⟩
abbrev S4x2 : Shape := ⟨2, ![4, 2]⟩
abbrev S4x1 : Shape := ⟨2, ![4, 1]⟩
abbrev S4x224x96 : Shape := ⟨3, ![4, 224, 96]⟩
abbrev S1x224x4096 : Shape := ⟨3, ![1, 224, 4096]⟩
abbrev S1x96x4096 : Shape := ⟨3, ![1, 96, 4096]⟩
abbrev S96x4096 : Shape := ⟨2, ![96, 4096]⟩
abbrev S1x1x1x96 : Shape := ⟨4, ![1, 1, 1, 96]⟩
abbrev S1x224x96 : Shape := ⟨3, ![1, 224, 96]⟩
abbrev S3x224x96 : Shape := ⟨3, ![3, 224, 96]⟩
abbrev S224x4096 : Shape := ⟨2, ![224, 4096]⟩
abbrev S224x96 : Shape := ⟨2, ![224, 96]⟩
abbrev S224 : Shape := ⟨1, ![224]⟩
abbrev S224x1 : Shape := ⟨2, ![224, 1]⟩
abbrev S4x14x16x96 : Shape := ⟨4, ![4, 14, 16, 96]⟩
abbrev S4x14x14x96 : Shape := ⟨4, ![4, 14, 14, 96]⟩
abbrev S4x96x14x14 : Shape := ⟨4, ![4, 96, 14, 14]⟩

abbrev nBuf : Space → Nat
  | .hbm => 67
  | .vmem => 25
  | .smem => 1
  | _ => 0

abbrev bufTy : (tb : Table) → Fin (tcTables nBuf tb) → BufTy
  | .hbm, ⟨0, _⟩ => ⟨S4x96x224x224, .f32⟩
  | .hbm, ⟨1, _⟩ => ⟨S96x8, .f32⟩
  | .hbm, ⟨2, _⟩ => ⟨S8x96x96x16x16, .f32⟩
  | .hbm, ⟨3, _⟩ => ⟨S8x96, .f32⟩
  | .hbm, ⟨4, _⟩ => ⟨S8x96, .f32⟩
  | .hbm, ⟨5, _⟩ => ⟨S8x96, .f32⟩
  | .hbm, ⟨6, _⟩ => ⟨S96x96x16x16, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S4x224x24576, .f32⟩
  | .hbm, ⟨11, _⟩ => ⟨S4x1x8, .f32⟩
  | .hbm, ⟨12, _⟩ => ⟨S4x1x8, .i32⟩
  | .hbm, ⟨13, _⟩ => ⟨S4x1x3, .f32⟩
  | .hbm, ⟨14, _⟩ => ⟨S4x3, .f32⟩
  | .hbm, ⟨15, _⟩ => ⟨S4x1x3, .i32⟩
  | .hbm, ⟨16, _⟩ => ⟨S4x3, .i32⟩
  | .hbm, ⟨17, _⟩ => ⟨S8x96x24576, .f32⟩
  | .hbm, ⟨18, _⟩ => ⟨S96x24576, .f32⟩
  | .hbm, ⟨19, _⟩ => ⟨S1x96, .f32⟩
  | .hbm, ⟨20, _⟩ => ⟨S9x96, .f32⟩
  | .hbm, ⟨21, _⟩ => ⟨S1x96, .f32⟩
  | .hbm, ⟨22, _⟩ => ⟨S9x96, .f32⟩
  | .hbm, ⟨23, _⟩ => ⟨S1x96, .f32⟩
  | .hbm, ⟨24, _⟩ => ⟨S9x96, .f32⟩
  | .hbm, ⟨25, _⟩ => ⟨S_, .i32⟩
  | .hbm, ⟨26, _⟩ => ⟨S4x3, .i32⟩
  | .hbm, ⟨27, _⟩ => ⟨S4x3, .i1⟩
  | .hbm, ⟨28, _⟩ => ⟨S_, .i32⟩
  | .hbm, ⟨29, _⟩ => ⟨S4x3, .i32⟩
  | .hbm, ⟨30, _⟩ => ⟨S4x3, .i32⟩
  | .hbm, ⟨31, _⟩ => ⟨S4x3, .i32⟩
  | .hbm, ⟨32, _⟩ => ⟨S4x3x1, .i32⟩
  | .hbm, ⟨33, _⟩ => ⟨S4x3x96, .f32⟩
  | .hbm, ⟨34, _⟩ => ⟨S4x3x1x96, .f32⟩
  | .hbm, ⟨35, _⟩ => ⟨S4x3x1, .f32⟩
  | .hbm, ⟨36, _⟩ => ⟨S_, .i32⟩
  | .hbm, ⟨37, _⟩ => ⟨S4x3, .i32⟩
  | .hbm, ⟨38, _⟩ => ⟨S4x3, .i1⟩
  | .hbm, ⟨39, _⟩ => ⟨S_, .i32⟩
  | .hbm, ⟨40, _⟩ => ⟨S4x3, .i32⟩
  | .hbm, ⟨41, _⟩ => ⟨S4x3, .i32⟩
  | .hbm, ⟨42, _⟩ => ⟨S4x3, .i32⟩
  | .hbm, ⟨43, _⟩ => ⟨S4x3x1, .i32⟩
  | .hbm, ⟨44, _⟩ => ⟨S4x3x96, .f32⟩
  | .hbm, ⟨45, _⟩ => ⟨S4x3x96, .f32⟩
  | .hbm, ⟨46, _⟩ => ⟨S4x3x96, .f32⟩
  | .hbm, ⟨47, _⟩ => ⟨S4x3x1x96, .f32⟩
  | .hbm, ⟨48, _⟩ => ⟨S4x3x1, .f32⟩
  | .hbm, ⟨49, _⟩ => ⟨S_, .i32⟩
  | .hbm, ⟨50, _⟩ => ⟨S4x3, .i32⟩
  | .hbm, ⟨51, _⟩ => ⟨S4x3, .i1⟩
  | .hbm, ⟨52, _⟩ => ⟨S_, .i32⟩
  | .hbm, ⟨53, _⟩ => ⟨S4x3, .i32⟩
  | .hbm, ⟨54, _⟩ => ⟨S4x3, .i32⟩
  | .hbm, ⟨55, _⟩ => ⟨S4x3, .i32⟩
  | .hbm, ⟨56, _⟩ => ⟨S4x3x1, .i32⟩
  | .hbm, ⟨57, _⟩ => ⟨S4x3x96, .f32⟩
  | .hbm, ⟨58, _⟩ => ⟨S4x3x96, .f32⟩
  | .hbm, ⟨59, _⟩ => ⟨S4x3x96, .f32⟩
  | .hbm, ⟨60, _⟩ => ⟨S4x3x1x96, .f32⟩
  | .hbm, ⟨61, _⟩ => ⟨S4x2, .i32⟩
  | .hbm, ⟨62, _⟩ => ⟨S4x1, .i32⟩
  | .hbm, ⟨63, _⟩ => ⟨S4x224x96, .f32⟩
  | .hbm, ⟨64, _⟩ => ⟨S4x14x16x96, .f32⟩
  | .hbm, ⟨65, _⟩ => ⟨S4x14x14x96, .f32⟩
  | .hbm, ⟨66, _⟩ => ⟨S4x96x14x14, .f32⟩
  | .local _ .vmem, ⟨0, _⟩ => ⟨S1x96x16x224, .f32⟩
  | .local _ .vmem, ⟨1, _⟩ => ⟨S1x96x16x224, .f32⟩
  | .local _ .vmem, ⟨2, _⟩ => ⟨S96x8, .f32⟩
  | .local _ .vmem, ⟨3, _⟩ => ⟨S1x16x24576, .f32⟩
  | .local _ .vmem, ⟨4, _⟩ => ⟨S1x16x24576, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .i32⟩
  | .local _ .vmem, ⟨8, _⟩ => ⟨S1x1x8, .i32⟩
  | .local _ .vmem, ⟨9, _⟩ => ⟨S96x1, .f32⟩
  | .local _ .vmem, ⟨10, _⟩ => ⟨S1x224x4096, .f32⟩
  | .local _ .vmem, ⟨11, _⟩ => ⟨S1x224x4096, .f32⟩
  | .local _ .vmem, ⟨12, _⟩ => ⟨S1x96x4096, .f32⟩
  | .local _ .vmem, ⟨13, _⟩ => ⟨S1x96x4096, .f32⟩
  | .local _ .vmem, ⟨14, _⟩ => ⟨S96x4096, .f32⟩
  | .local _ .vmem, ⟨15, _⟩ => ⟨S96x4096, .f32⟩
  | .local _ .vmem, ⟨16, _⟩ => ⟨S1x1x1x96, .f32⟩
  | .local _ .vmem, ⟨17, _⟩ => ⟨S1x1x1x96, .f32⟩
  | .local _ .vmem, ⟨18, _⟩ => ⟨S1x1x1x96, .f32⟩
  | .local _ .vmem, ⟨19, _⟩ => ⟨S1x1x1x96, .f32⟩
  | .local _ .vmem, ⟨20, _⟩ => ⟨S1x1x1x96, .f32⟩
  | .local _ .vmem, ⟨21, _⟩ => ⟨S1x1x1x96, .f32⟩
  | .local _ .vmem, ⟨22, _⟩ => ⟨S1x224x96, .f32⟩
  | .local _ .vmem, ⟨23, _⟩ => ⟨S1x224x96, .f32⟩
  | .local _ .vmem, ⟨24, _⟩ => ⟨S3x224x96, .f32⟩
  | .local _ .smem, ⟨0, _⟩ => ⟨S4x3, .i32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v45 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F] [Named F]

def κ : String → Option EReal := fun
  | "inv_hw" => some ((50176⁻¹ : ℝ) : EReal)
  | "mask" => some ⊥
  | _ => none

abbrev grid0 : Pipeline.Grid := ⟨2, ![4, 14], ![false, false]⟩

def k0_cond3 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_10 : BitVec 32 := 0#32
  let v23 : BitVec 1 := Scalar.cmpi .ne v22 c0_i32_10
  v23

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x16x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x24576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨3, ![4, 6, 3], ![false, false, false]⟩

abbrev pre1 : Pipeline.Prefetch sig := ⟨1, ![main_v45.idx], fun | 0 => main_v45.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def k1_cond1 (i : grid1.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_7 : BitVec 32 := 0#32
  let v11 : BitVec 1 := Scalar.cmpi .ne v10 c0_i32_7
  v11

def k1_off2 (i : grid1.Coords) : Fin 3 → Nat :=
  let arg2 : BitVec 32 := BitVec.ofNat 32 (i 2).val
  let v18 : Index := Scalar.indexCast arg2
  let c0_11 : Index := 0#32
  let c0_12 : Index := 0#32
  ![v18.toNat, 0, 0]
def k1_cond2 (i : grid1.Coords) : BitVec 1 :=
  let arg1 : BitVec 32 := BitVec.ofNat 32 (i 1).val
  let c0_i32_8 : BitVec 32 := 0#32
  let v12 : BitVec 1 := Scalar.cmpi .sgt arg1 c0_i32_8
  let v13 : BitVec 32 := Scalar.extui v12
  let c0_i32_9 : BitVec 32 := 0#32
  let v14 : BitVec 1 := Scalar.cmpi .ne v13 c0_i32_9
  v14

def k1_off3 (i : grid1.Coords) : Fin 3 → Nat :=
  let arg2 : BitVec 32 := BitVec.ofNat 32 (i 2).val
  let v18 : Index := Scalar.indexCast arg2
  let c0_11 : Index := 0#32
  let c0_12 : Index := 0#32
  ![v18.toNat, 0, 0]
def k1_cond3 (i : grid1.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_10 : BitVec 32 := 0#32
  let v17 : BitVec 1 := Scalar.cmpi .ne v16 c0_i32_10
  v17

def k1_off4 (i : grid1.Coords) : Fin 3 → Nat :=
  let arg2 : BitVec 32 := BitVec.ofNat 32 (i 2).val
  let v18 : Index := Scalar.indexCast arg2
  let c0_11 : Index := 0#32
  let c0_12 : Index := 0#32
  ![v18.toNat, 0, 0]
def k1_cond4 (i : grid1.Coords) : BitVec 1 :=
  let arg2 : BitVec 32 := BitVec.ofNat 32 (i 2).val
  let c0_i32_30 : BitVec 32 := 0#32
  let v49 : BitVec 1 := Scalar.cmpi .eq arg2 c0_i32_30
  let v50 : BitVec 32 := Scalar.extui v49
  let c0_i32_31 : BitVec 32 := 0#32
  let v51 : BitVec 1 := Scalar.cmpi .ne v50 c0_i32_31
  v51

def k1_cond5 (i : grid1.Coords) : BitVec 1 :=
  let arg2 : BitVec 32 := BitVec.ofNat 32 (i 2).val
  let c0_i32_32 : BitVec 32 := 0#32
  let v52 : BitVec 1 := Scalar.cmpi .sgt arg2 c0_i32_32
  let v53 : BitVec 32 := Scalar.extui v52
  let c0_i32_33 : BitVec 32 := 0#32
  let v54 : BitVec 1 := Scalar.cmpi .ne v53 c0_i32_33
  v54

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (k1_off1_inb : ∀ i : grid1.Coords, ∀ a, (k1_off1 i) a + S1x1.size a ≤ S4x3.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S4x3) ![v0.toNat, v1.toNat] S1x1.size (k1_off1_inb i)) numel1_S1x1
  let c0_i32 : BitVec 32 := 0#32
  let c0_i32_0 : BitVec 32 := 0#32
  ![v2.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x224x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x96x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S96x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1x1x1x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x1x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1x1x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S1x224x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, false]
-- ==== ReferenceIdeal.lean ====
abbrev S4x96x224x224 : Shape := ⟨4, ![4, 96, 224, 224]⟩
abbrev S96x8 : Shape := ⟨2, ![96, 8]⟩
abbrev S8x96x96x16x16 : Shape := ⟨5, ![8, 96, 96, 16, 16]⟩
abbrev S8x96 : Shape := ⟨2, ![8, 96]⟩
abbrev S96x96x16x16 : Shape := ⟨4, ![96, 96, 16, 16]⟩
abbrev S96 : Shape := ⟨1, ![96]⟩
abbrev S_ : Shape := ⟨0, ![]⟩
abbrev S4x96 : Shape := ⟨2, ![4, 96]⟩
abbrev S4x8 : Shape := ⟨2, ![4, 8]⟩
abbrev S4x3 : Shape := ⟨2, ![4, 3]⟩
abbrev S4x2 : Shape := ⟨2, ![4, 2]⟩
abbrev S4 : Shape := ⟨1, ![4]⟩
abbrev S4x1 : Shape := ⟨2, ![4, 1]⟩
abbrev S4x2x1 : Shape := ⟨3, ![4, 2, 1]⟩
abbrev S4x2x2 : Shape := ⟨3, ![4, 2, 2]⟩
abbrev S4x96x14x16x14x16 : Shape := ⟨6, ![4, 96, 14, 16, 14, 16]⟩
abbrev S8x96x4x14x14 : Shape := ⟨5, ![8, 96, 4, 14, 14]⟩
abbrev S4x8x96x14x14 : Shape := ⟨5, ![4, 8, 96, 14, 14]⟩
abbrev S1x8x96x1x1 : Shape := ⟨5, ![1, 8, 96, 1, 1]⟩
abbrev S4x8x14x14 : Shape := ⟨4, ![4, 8, 14, 14]⟩
abbrev S4x8x1x14x14 : Shape := ⟨5, ![4, 8, 1, 14, 14]⟩
abbrev S4x8x1x1x1 : Shape := ⟨5, ![4, 8, 1, 1, 1]⟩
abbrev S4x96x14x14 : Shape := ⟨4, ![4, 96, 14, 14]⟩
abbrev S1x96x96x16x16 : Shape := ⟨5, ![1, 96, 96, 16, 16]⟩
abbrev S1x96 : Shape := ⟨2, ![1, 96]⟩
abbrev S1x96x4x14x14 : Shape := ⟨5, ![1, 96, 4, 14, 14]⟩
abbrev S4x1x96x14x14 : Shape := ⟨5, ![4, 1, 96, 14, 14]⟩
abbrev S1x1x96x1x1 : Shape := ⟨5, ![1, 1, 96, 1, 1]⟩
abbrev S4x1x14x14 : Shape := ⟨4, ![4, 1, 14, 14]⟩
abbrev S4x1x1x14x14 : Shape := ⟨5, ![4, 1, 1, 14, 14]⟩

abbrev nBuf : Space → Nat
  | .hbm => 138
  | .vmem => 0
  | .smem => 0
  | _ => 0

abbrev hbmTy0_0 (i : Nat) : BufTy := match i % 128 with
  | 0 => ⟨S4x96x224x224, .f32⟩
  | 1 => ⟨S96x8, .f32⟩
  | 2 => ⟨S8x96x96x16x16, .f32⟩
  | 3 => ⟨S8x96, .f32⟩
  | 4 => ⟨S8x96, .f32⟩
  | 5 => ⟨S8x96, .f32⟩
  | 6 => ⟨S96x96x16x16, .f32⟩
  | 7 => ⟨S96, .f32⟩
  | 8 => ⟨S96, .f32⟩
  | 9 => ⟨S96, .f32⟩
  | 10 => ⟨S_, .f32⟩
  | 11 => ⟨S4x96, .f32⟩
  | 12 => ⟨S_, .f32⟩
  | 13 => ⟨S4x96, .f32⟩
  | 14 => ⟨S4x96, .f32⟩
  | 15 => ⟨S4x8, .f32⟩
  | 16 => ⟨S4x3, .f32⟩
  | 17 => ⟨S4x3, .i32⟩
  | 18 => ⟨S4x2, .f32⟩
  | 19 => ⟨S4x2, .i32⟩
  | 20 => ⟨S_, .f32⟩
  | 21 => ⟨S4, .f32⟩
  | 22 => ⟨S_, .f32⟩
  | 23 => ⟨S4, .f32⟩
  | 24 => ⟨S4, .f32⟩
  | 25 => ⟨S4x1, .f32⟩
  | 26 => ⟨S4x2, .f32⟩
  | 27 => ⟨S4x2, .f32⟩
  | 28 => ⟨S4x2, .f32⟩
  | 29 => ⟨S_, .f32⟩
  | 30 => ⟨S4, .f32⟩
  | 31 => ⟨S4x1, .f32⟩
  | 32 => ⟨S4x2, .f32⟩
  | 33 => ⟨S4x2, .f32⟩
  | 34 => ⟨S_, .f32⟩
  | 35 => ⟨S4x8, .f32⟩
  | 36 => ⟨S4, .i32⟩
  | 37 => ⟨S4x1, .i32⟩
  | 38 => ⟨S_, .i32⟩
  | 39 => ⟨S4x1, .i32⟩
  | 40 => ⟨S4x1, .i1⟩
  | 41 => ⟨S_, .i32⟩
  | 42 => ⟨S4x1, .i32⟩
  | 43 => ⟨S4x1, .i32⟩
  | 44 => ⟨S4x1, .i32⟩
  | 45 => ⟨S_, .i32⟩
  | 46 => ⟨S4x2, .i32⟩
  | 47 => ⟨S4x2, .i1⟩
  | 48 => ⟨S_, .i32⟩
  | 49 => ⟨S4x2, .i32⟩
  | 50 => ⟨S4x2, .i32⟩
  | 51 => ⟨S4x2, .i32⟩
  | 52 => ⟨S4x2, .i32⟩
  | 53 => ⟨S4x2x1, .i32⟩
  | 54 => ⟨S4x2x1, .i32⟩
  | 55 => ⟨S4x2x2, .i32⟩
  | 56 => ⟨S4x8, .f32⟩
  | 57 => ⟨S4x96x14x16x14x16, .f32⟩
  | 58 => ⟨S8x96x4x14x14, .f32⟩
  | 59 => ⟨S4x8x96x14x14, .f32⟩
  | 60 => ⟨S1x8x96x1x1, .f32⟩
  | 61 => ⟨S4x8x96x14x14, .f32⟩
  | 62 => ⟨S4x8x96x14x14, .f32⟩
  | 63 => ⟨S_, .f32⟩
  | 64 => ⟨S4x8x14x14, .f32⟩
  | 65 => ⟨S4x8x1x14x14, .f32⟩
  | 66 => ⟨S_, .f32⟩
  | 67 => ⟨S4x8x1x14x14, .f32⟩
  | 68 => ⟨S4x8x1x14x14, .f32⟩
  | 69 => ⟨S4x8x96x14x14, .f32⟩
  | 70 => ⟨S4x8x96x14x14, .f32⟩
  | 71 => ⟨S4x8x96x14x14, .f32⟩
  | 72 => ⟨S_, .f32⟩
  | 73 => ⟨S4x8x14x14, .f32⟩
  | 74 => ⟨S4x8x1x14x14, .f32⟩
  | 75 => ⟨S_, .f32⟩
  | 76 => ⟨S4x8x1x14x14, .f32⟩
  | 77 => ⟨S4x8x1x14x14, .f32⟩
  | 78 => ⟨S4x8x96x14x14, .f32⟩
  | 79 => ⟨S4x8x96x14x14, .f32⟩
  | 80 => ⟨S_, .f32⟩
  | 81 => ⟨S4x8x1x14x14, .f32⟩
  | 82 => ⟨S4x8x1x14x14, .f32⟩
  | 83 => ⟨S4x8x1x14x14, .f32⟩
  | 84 => ⟨S4x8x96x14x14, .f32⟩
  | 85 => ⟨S4x8x96x14x14, .f32⟩
  | 86 => ⟨S1x8x96x1x1, .f32⟩
  | 87 => ⟨S4x8x96x14x14, .f32⟩
  | 88 => ⟨S4x8x96x14x14, .f32⟩
  | 89 => ⟨S1x8x96x1x1, .f32⟩
  | 90 => ⟨S4x8x96x14x14, .f32⟩
  | 91 => ⟨S4x8x96x14x14, .f32⟩
  | 92 => ⟨S4x8x1x1x1, .f32⟩
  | 93 => ⟨S4x8x96x14x14, .f32⟩
  | 94 => ⟨S4x8x96x14x14, .f32⟩
  | 95 => ⟨S_, .f32⟩
  | 96 => ⟨S4x96x14x14, .f32⟩
  | 97 => ⟨S1x96x96x16x16, .f32⟩
  | 98 => ⟨S1x96, .f32⟩
  | 99 => ⟨S1x96, .f32⟩
  | 100 => ⟨S1x96, .f32⟩
  | 101 => ⟨S4x96x14x16x14x16, .f32⟩
  | 102 => ⟨S1x96x4x14x14, .f32⟩
  | 103 => ⟨S4x1x96x14x14, .f32⟩
  | 104 => ⟨S1x1x96x1x1, .f32⟩
  | 105 => ⟨S4x1x96x14x14, .f32⟩
  | 106 => ⟨S4x1x96x14x14, .f32⟩
  | 107 => ⟨S_, .f32⟩
  | 108 => ⟨S4x1x14x14, .f32⟩
  | 109 => ⟨S4x1x1x14x14, .f32⟩
  | 110 => ⟨S_, .f32⟩
  | 111 => ⟨S4x1x1x14x14, .f32⟩
  | 112 => ⟨S4x1x1x14x14, .f32⟩
  | 113 => ⟨S4x1x96x14x14, .f32⟩
  | 114 => ⟨S4x1x96x14x14, .f32⟩
  | 115 => ⟨S4x1x96x14x14, .f32⟩
  | 116 => ⟨S_, .f32⟩
  | 117 => ⟨S4x1x14x14, .f32⟩
  | 118 => ⟨S4x1x1x14x14, .f32⟩
  | 119 => ⟨S_, .f32⟩
  | 120 => ⟨S4x1x1x14x14, .f32⟩
  | 121 => ⟨S4x1x1x14x14, .f32⟩
  | 122 => ⟨S4x1x96x14x14, .f32⟩
  | 123 => ⟨S4x1x96x14x14, .f32⟩
  | 124 => ⟨S_, .f32⟩
  | 125 => ⟨S4x1x1x14x14, .f32⟩
  | 126 => ⟨S4x1x1x14x14, .f32⟩
  | 127 => ⟨S4x1x1x14x14, .f32⟩
  | _ => ⟨S4x96x224x224, .f32⟩

abbrev hbmTy0_1 (i : Nat) : BufTy := match i % 128 with
  | 0 => ⟨S4x1x96x14x14, .f32⟩
  | 1 => ⟨S4x1x96x14x14, .f32⟩
  | 2 => ⟨S1x1x96x1x1, .f32⟩
  | 3 => ⟨S4x1x96x14x14, .f32⟩
  | 4 => ⟨S4x1x96x14x14, .f32⟩
  | 5 => ⟨S1x1x96x1x1, .f32⟩
  | 6 => ⟨S4x1x96x14x14, .f32⟩
  | 7 => ⟨S4x1x96x14x14, .f32⟩
  | 8 => ⟨S4x96x14x14, .f32⟩
  | 9 => ⟨S4x96x14x14, .f32⟩
  | _ => ⟨S4x96x224x224, .f32⟩

abbrev hbmTy (i : Nat) : BufTy := match i / 128 with
  | 0 => hbmTy0_0 i
  | 1 => hbmTy0_1 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_values : Ref sig .tc := ⟨.hbm, 16, rfl⟩
abbrev main_indices : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_cst_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Gate.lean ====
abbrev S4x96x224x224 : Shape := ⟨4, ![4, 96, 224, 224]⟩
abbrev S96x8 : Shape := ⟨2, ![96, 8]⟩
abbrev S4x224x24576 : Shape := ⟨3, ![4, 224, 24576]⟩
abbrev S4x1x8 : Shape := ⟨3, ![4, 1, 8]⟩
abbrev S1x96x16x224 : Shape := ⟨4, ![1, 96, 16, 224]⟩
abbrev S1x16x24576 : Shape := ⟨3, ![1, 16, 24576]⟩
abbrev S1x1x8 : Shape := ⟨3, ![1, 1, 8]⟩
abbrev S96x1 : Shape := ⟨2, ![96, 1]⟩
abbrev S96x16x224 : Shape := ⟨3, ![96, 16, 224]⟩
abbrev S1536x224 : Shape := ⟨2, ![1536, 224]⟩
abbrev S224x1536 : Shape := ⟨2, ![224, 1536]⟩
abbrev S14x16x1536 : Shape := ⟨3, ![14, 16, 1536]⟩
abbrev S14x1536x16 : Shape := ⟨3, ![14, 1536, 16]⟩
abbrev S14x24576 : Shape := ⟨2, ![14, 24576]⟩
abbrev S2x24576 : Shape := ⟨2, ![2, 24576]⟩
abbrev S16x24576 : Shape := ⟨2, ![16, 24576]⟩
abbrev S96 : Shape := ⟨1, ![96]⟩
abbrev S96x1x1 : Shape := ⟨3, ![96, 1, 1]⟩
abbrev S8 : Shape := ⟨1, ![8]⟩
abbrev S1x8 : Shape := ⟨2, ![1, 8]⟩
abbrev S1 : Shape := ⟨1, ![1]⟩
abbrev S1x1 : Shape := ⟨2, ![1, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x96x224x224, .f32⟩
  | .hbm, ⟨1, _⟩ => ⟨S96x8, .f32⟩
  | .hbm, ⟨2, _⟩ => ⟨S4x224x24576, .f32⟩
  | .hbm, ⟨3, _⟩ => ⟨S4x1x8, .f32⟩
  | .hbm, ⟨4, _⟩ => ⟨S4x1x8, .i32⟩
  | .local _ .vmem, ⟨0, _⟩ => ⟨S1x96x16x224, .f32⟩
  | .local _ .vmem, ⟨1, _⟩ => ⟨S1x96x16x224, .f32⟩
  | .local _ .vmem, ⟨2, _⟩ => ⟨S96x8, .f32⟩
  | .local _ .vmem, ⟨3, _⟩ => ⟨S1x16x24576, .f32⟩
  | .local _ .vmem, ⟨4, _⟩ => ⟨S1x16x24576, .f32⟩
  | .local _ .vmem, ⟨5, _⟩ => ⟨S1x1x8, .f32⟩
  | .local _ .vmem, ⟨6, _⟩ => ⟨S1x1x8, .f32⟩
  | .local _ .vmem, ⟨7, _⟩ => ⟨S1x1x8, .i32⟩
  | .local _ .vmem, ⟨8, _⟩ => ⟨S1x1x8, .i32⟩
  | .local _ .vmem, ⟨9, _⟩ => ⟨S96x1, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 14], ![false, false]⟩

def k0_cond3 (i : grid0.Coords) : BitVec 1 :=
  let arg1 : BitVec 32 := BitVec.ofNat 32 (i 1).val
  let c13_i32 : BitVec 32 := 13#32
  let v21 : BitVec 1 := Scalar.cmpi .eq arg1 c13_i32
  let v22 : BitVec 32 := Scalar.extui v21
  let c0_i32_10 : BitVec 32 := 0#32
  let v23 : BitVec 1 := Scalar.cmpi .ne v22 c0_i32_10
  v23

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x16x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x24576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateIdeal.lean ====
variable {F : FTy → Type} [FloatOps F] [Named F]
def κ : String → Option EReal := fun
  | "inv_hw" => some ((50176⁻¹ : ℝ) : EReal)
  | "mask" => some ⊥
  | _ => none
-- ==== Moe.lean ====
abbrev S4x3 : Shape := ⟨2, ![4, 3]⟩
abbrev S4x224x24576 : Shape := ⟨3, ![4, 224, 24576]⟩
abbrev S8x96x24576 : Shape := ⟨3, ![8, 96, 24576]⟩
abbrev S96x24576 : Shape := ⟨2, ![96, 24576]⟩
abbrev S4x3x1x96 : Shape := ⟨4, ![4, 3, 1, 96]⟩
abbrev S4x224x96 : Shape := ⟨3, ![4, 224, 96]⟩
abbrev S1x224x4096 : Shape := ⟨3, ![1, 224, 4096]⟩
abbrev S1x96x4096 : Shape := ⟨3, ![1, 96, 4096]⟩
abbrev S1x1 : Shape := ⟨2, ![1, 1]⟩
abbrev S96x4096 : Shape := ⟨2, ![96, 4096]⟩
abbrev S1x1x1x96 : Shape := ⟨4, ![1, 1, 1, 96]⟩
abbrev S1x224x96 : Shape := ⟨3, ![1, 224, 96]⟩
abbrev S3x224x96 : Shape := ⟨3, ![3, 224, 96]⟩
abbrev S224x4096 : Shape := ⟨2, ![224, 4096]⟩
abbrev S224x96 : Shape := ⟨2, ![224, 96]⟩
abbrev S1x96 : Shape := ⟨2, ![1, 96]⟩
abbrev S224 : Shape := ⟨1, ![224]⟩
abbrev S224x1 : Shape := ⟨2, ![224, 1]⟩

abbrev nBuf : Space → Nat
  | .hbm => 7
  | .vmem => 15
  | .smem => 1
  | _ => 0

abbrev bufTy : (tb : Table) → Fin (tcTables nBuf tb) → BufTy
  | .hbm, ⟨0, _⟩ => ⟨S4x224x24576, .f32⟩
  | .hbm, ⟨1, _⟩ => ⟨S8x96x24576, .f32⟩
  | .hbm, ⟨2, _⟩ => ⟨S96x24576, .f32⟩
  | .hbm, ⟨3, _⟩ => ⟨S4x3x1x96, .f32⟩
  | .hbm, ⟨4, _⟩ => ⟨S4x3x1x96, .f32⟩
  | .hbm, ⟨5, _⟩ => ⟨S4x3x1x96, .f32⟩
  | .hbm, ⟨6, _⟩ => ⟨S4x224x96, .f32⟩
  | .local _ .vmem, ⟨0, _⟩ => ⟨S1x224x4096, .f32⟩
  | .local _ .vmem, ⟨1, _⟩ => ⟨S1x224x4096, .f32⟩
  | .local _ .vmem, ⟨2, _⟩ => ⟨S1x96x4096, .f32⟩
  | .local _ .vmem, ⟨3, _⟩ => ⟨S1x96x4096, .f32⟩
  | .local _ .vmem, ⟨4, _⟩ => ⟨S96x4096, .f32⟩
  | .local _ .vmem, ⟨5, _⟩ => ⟨S96x4096, .f32⟩
  | .local _ .vmem, ⟨6, _⟩ => ⟨S1x1x1x96, .f32⟩
  | .local _ .vmem, ⟨7, _⟩ => ⟨S1x1x1x96, .f32⟩
  | .local _ .vmem, ⟨8, _⟩ => ⟨S1x1x1x96, .f32⟩
  | .local _ .vmem, ⟨9, _⟩ => ⟨S1x1x1x96, .f32⟩
  | .local _ .vmem, ⟨10, _⟩ => ⟨S1x1x1x96, .f32⟩
  | .local _ .vmem, ⟨11, _⟩ => ⟨S1x1x1x96, .f32⟩
  | .local _ .vmem, ⟨12, _⟩ => ⟨S1x224x96, .f32⟩
  | .local _ .vmem, ⟨13, _⟩ => ⟨S1x224x96, .f32⟩
  | .local _ .vmem, ⟨14, _⟩ => ⟨S3x224x96, .f32⟩
  | .local _ .smem, ⟨0, _⟩ => ⟨S4x3, .i32⟩
  | _, _ => ⟨S4x224x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 6, 3], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_off2 (i : grid0.Coords) : Fin 3 → Nat :=
  let arg2 : BitVec 32 := BitVec.ofNat 32 (i 2).val
  let v17 : Index := Scalar.indexCast arg2
  let c0_11 : Index := 0#32
  let c0_12 : Index := 0#32
  ![v17.toNat, 0, 0]
def k0_cond2 (i : grid0.Coords) : BitVec 1 :=
  let arg1 : BitVec 32 := BitVec.ofNat 32 (i 1).val
  let c0_i32_8 : BitVec 32 := 0#32
  let v11 : BitVec 1 := Scalar.cmpi .sgt arg1 c0_i32_8
  let v12 : BitVec 32 := Scalar.extui v11
  let c0_i32_9 : BitVec 32 := 0#32
  let v13 : BitVec 1 := Scalar.cmpi .ne v12 c0_i32_9
  v13

def k0_off3 (i : grid0.Coords) : Fin 3 → Nat :=
  let arg2 : BitVec 32 := BitVec.ofNat 32 (i 2).val
  let v17 : Index := Scalar.indexCast arg2
  let c0_11 : Index := 0#32
  let c0_12 : Index := 0#32
  ![v17.toNat, 0, 0]
def k0_cond3 (i : grid0.Coords) : BitVec 1 :=
  let arg1 : BitVec 32 := BitVec.ofNat 32 (i 1).val
  let c5_i32 : BitVec 32 := 5#32
  let v14 : BitVec 1 := Scalar.cmpi .eq arg1 c5_i32
  let v15 : BitVec 32 := Scalar.extui v14
  let c0_i32_10 : BitVec 32 := 0#32
  let v16 : BitVec 1 := Scalar.cmpi .ne v15 c0_i32_10
  v16

def k0_off4 (i : grid0.Coords) : Fin 3 → Nat :=
  let arg2 : BitVec 32 := BitVec.ofNat 32 (i 2).val
  let v17 : Index := Scalar.indexCast arg2
  let c0_11 : Index := 0#32
  let c0_12 : Index := 0#32
  ![v17.toNat, 0, 0]
def k0_cond4 (i : grid0.Coords) : BitVec 1 :=
  let arg2 : BitVec 32 := BitVec.ofNat 32 (i 2).val
  let c0_i32_30 : BitVec 32 := 0#32
  let v48 : BitVec 1 := Scalar.cmpi .eq arg2 c0_i32_30
  let v49 : BitVec 32 := Scalar.extui v48
  let c0_i32_31 : BitVec 32 := 0#32
  let v50 : BitVec 1 := Scalar.cmpi .ne v49 c0_i32_31
  v50

def k0_cond5 (i : grid0.Coords) : BitVec 1 :=
  let arg2 : BitVec 32 := BitVec.ofNat 32 (i 2).val
  let c0_i32_32 : BitVec 32 := 0#32
  let v51 : BitVec 1 := Scalar.cmpi .sgt arg2 c0_i32_32
  let v52 : BitVec 32 := Scalar.extui v51
  let c0_i32_33 : BitVec 32 := 0#32
  let v53 : BitVec 1 := Scalar.cmpi .ne v52 c0_i32_33
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (k0_off1_inb : ∀ i : grid0.Coords, ∀ a, (k0_off1 i) a + S1x1.size a ≤ S4x3.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S4x3) ![v0.toNat, v1.toNat] S1x1.size (k0_off1_inb i)) numel1_S1x1
  let c0_i32 : BitVec 32 := 0#32
  let c0_i32_0 : BitVec 32 := 0#32
  ![v2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x96x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S96x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x1x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x224x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Proof.Math.lean ====
module

public import Idealize.ShloMosaic.Lib.Pointwise
public import Idealize.ShloMosaic.Lib.Pipeline.ValueKit
public import Idealize.ShloMosaic.Lib.SortPrefix
public import Idealize.ShloMosaic.Lib.SortNet.Extract

/-! Facts about extended reals and machine words the equation rests on: the first greatest of eight numbers, the two
greatest, the softmax of two numbers, and the two spellings of a layer norm. Nothing here knows a program. -/

@[expose] public section

set_option maxRecDepth 100000

open scoped BigOperators

namespace Cert.Proof.Math

open Idealize.ShloMosaic

/-- The smaller word is the left one where it is at most the right one. -/
theorem minsi_left {x y : BitVec 32} (h : x.toInt ≤ y.toInt) : IntOp.minsi x y = x := by
  unfold IntOp.minsi
  split
  · rfl
  · rename_i h'
    have h2 : ¬ x.toInt < y.toInt := by simpa [BitVec.slt] using h'
    exact BitVec.eq_of_toInt_eq (le_antisymm (not_lt.mp h2) h)

theorem toInt_minsi' (x y : BitVec 32) : (IntOp.minsi x y).toInt = min x.toInt y.toInt := by
  unfold IntOp.minsi
  split
  · rename_i h; have : x.toInt < y.toInt := by simpa [BitVec.slt] using h
    rw [min_eq_left this.le]
  · rename_i h; have : ¬ x.toInt < y.toInt := by simpa [BitVec.slt] using h
    rw [min_eq_right (not_lt.mp this)]

/-- The least of some words is the one at `a`, where that one is at most every other. -/
theorem fold_minsi {n : ℕ} (f : Fin n → BitVec 32) (c : BitVec 32) (a : Fin n) (hc : (f a).toInt ≤ c.toInt)
    (h : ∀ j, (f a).toInt ≤ (f j).toInt) : Finset.fold IntOp.minsi c f Finset.univ = f a := by
  have le : ∀ s : Finset (Fin n), (f a).toInt ≤ (Finset.fold IntOp.minsi c f s).toInt := by
    intro s
    induction s using Finset.induction_on with
    | empty => simpa using hc
    | insert j s hj ih => rw [Finset.fold_insert hj, toInt_minsi']; exact le_min (h j) ih
  rw [← Finset.insert_erase (Finset.mem_univ a), Finset.fold_insert (Finset.notMem_erase _ _)]
  exact minsi_left (le _)

/-- `a` is the first place where `l` is greatest. -/
structure First (l : Fin 8 → EReal) (a : Fin 8) : Prop where
  le : ∀ j, l j ≤ l a
  first : ∀ j, l j = l a → a ≤ j

/-- Some place is the first greatest. -/
theorem exists_first (l : Fin 8 → EReal) : ∃ a, First l a := by
  obtain ⟨m, -, hm⟩ := Finset.exists_max_image Finset.univ l ⟨0, Finset.mem_univ _⟩
  obtain ⟨a, ha, hmin⟩ := Finset.exists_min_image (Finset.univ.filter fun j => l j = l m) id ⟨m, by simp⟩
  have hl : l a = l m := by simpa using ha
  exact ⟨a, fun j => hl ▸ hm j (Finset.mem_univ j), fun j hj => hmin j (by simp [hj, hl])⟩

/-- The maximum of eight numbers is the number at the first greatest place. -/
theorem fold_max {l : Fin 8 → EReal} {a : Fin 8} (h : First l a) : Finset.fold max ⊥ l Finset.univ = l a :=
  le_antisymm ((Finset.fold_max_le _).mpr ⟨bot_le, fun j _ => h.le j⟩)
    ((Finset.le_fold_max _).mpr (Or.inr ⟨a, Finset.mem_univ a, le_rfl⟩))

theorem toInt_small : ∀ x : Fin 8, (BitVec.ofNat 32 x.val).toInt = x.val := by decide

/-- The least index among those where `l` is greatest is the first greatest place. -/
theorem fold_index {l : Fin 8 → EReal} {a : Fin 8} (h : First l a) :
    Finset.fold IntOp.minsi 2147483647#32 (fun x : Fin 8 => if l x = l a then BitVec.ofNat 32 x.val else 8#32)
      Finset.univ = BitVec.ofNat 32 a.val := by
  have ha : (if l a = l a then BitVec.ofNat 32 a.val else 8#32) = BitVec.ofNat 32 a.val := if_pos rfl
  refine (fold_minsi _ _ a ?_ ?_).trans ha
  · rw [ha, toInt_small]; have := a.isLt; simp; omega
  · intro j
    rw [ha, toInt_small]
    split
    · rename_i hj; rw [toInt_small]; exact_mod_cast h.first j hj
    · have := a.isLt; show ((a.val : ℕ) : ℤ) ≤ 8; omega

/-- `a` and `b` are the places of the two greatest of `l`, first places first. -/
structure Top2 (l : Fin 8 → EReal) (a b : Fin 8) : Prop where
  fst : First l a
  ne : b ≠ a
  le : ∀ j, j ≠ a → l j ≤ l b
  first : ∀ j, j ≠ a → l j = l b → b ≤ j

/-- The first greatest after the greatest has been put out is the second. -/
theorem top2_of_masked {l : Fin 8 → EReal} {a b : Fin 8} (ha : First l a)
    (hb : First (fun j => if j = a then ⊥ else l j) b) (hl : ∀ j, l j ≠ ⊥) : Top2 l a b := by
  have hne : b ≠ a := by
    rintro rfl
    obtain ⟨j, hj⟩ : ∃ j : Fin 8, j ≠ b := exists_ne b
    have := hb.le j
    simp only [hj, if_true, if_false, le_bot_iff] at this
    exact hl j this
  refine ⟨ha, hne, fun j hj => ?_, fun j hj h => ?_⟩
  · simpa [hj, hne] using hb.le j
  · exact hb.first j (by simpa [hj, hne] using h)

/-- A square is at least nought. -/
theorem mul_self_nonneg' (x : EReal) : 0 ≤ x * x := by
  induction x with
  | bot => simp
  | top => simp
  | coe r => rw [← EReal.coe_mul]; exact_mod_cast mul_self_nonneg r

/-- Dividing by a square root is multiplying by its reciprocal, above nought. -/
theorem div_sqrt (y z : EReal) (hz : 0 < z) : Ideal.div y (Ideal.sqrt z) = y * Ideal.rsqrt z := by
  induction z with
  | bot => simp at hz
  | top => simp [Ideal.div]
  | coe r =>
    have hr : 0 < r := by exact_mod_cast hz
    have h1 : Real.sqrt r ≠ 0 := (Real.sqrt_pos.mpr hr).ne'
    rw [Ideal.sqrt_coe, Ideal.rsqrt_coe, if_neg (not_lt.mpr hr.le), if_neg hr.le.not_gt, if_neg hr.ne', Ideal.div_coe h1, one_div]

theorem lit96 : Ideal.ofBits .f32 1119879168#32 = ((96 : ℝ) : EReal) := by
  simp [Ideal.ofBits, Ideal.ieee, -EReal.coe_mul]; norm_num

theorem litHW : Ideal.ofBits .f32 1195638784#32 = ((50176 : ℝ) : EReal) := by
  simp [Ideal.ofBits, Ideal.ieee, -EReal.coe_mul]; norm_num

theorem litBot : Ideal.ofBits .f32 4286578688#32 = ⊥ := by
  simp [Ideal.ofBits, Ideal.ieee]

theorem litEps : 0 < Ideal.ofBits .f32 897988541#32 := by
  simp [Ideal.ofBits, Ideal.ieee, -EReal.coe_mul]

/-- The variance under the root is above nought. -/
theorem var_pos (f : Fin 96 → EReal) :
    0 < Ideal.div (∑ x, f x * f x) (Ideal.ofBits .f32 1119879168#32) + Ideal.ofBits .f32 897988541#32 := by
  refine Right.add_pos_of_nonneg_of_pos ?_ litEps
  rw [lit96, Ideal.div_coe (by norm_num)]
  refine mul_nonneg (Finset.sum_nonneg fun x _ => mul_self_nonneg' (f x)) ?_
  exact_mod_cast (by norm_num : (0 : ℝ) ≤ 1 / 96)

/-- The mean of 96 numbers. -/
noncomputable def mean96 (y : Fin 96 → EReal) : EReal := Ideal.div (∑ x, y x) (Ideal.ofBits .f32 1119879168#32)

/-- The numbers less their mean, over the root of their variance and a little more. -/
noncomputable def normed (y : Fin 96 → EReal) (o : Fin 96) : EReal :=
  Ideal.div (y o - mean96 y) (Ideal.sqrt
    (Ideal.div (∑ x, (y x - mean96 y) * (y x - mean96 y)) (Ideal.ofBits .f32 1119879168#32) + Ideal.ofBits .f32 897988541#32))

/-- The same with the reciprocal root. -/
theorem normed_eq (y : Fin 96 → EReal) (o : Fin 96) :
    normed y o = (y o - mean96 y) * Ideal.rsqrt
      (Ideal.div (∑ x, (y x - mean96 y) * (y x - mean96 y)) (Ideal.ofBits .f32 1119879168#32) + Ideal.ofBits .f32 897988541#32) :=
  div_sqrt _ _ (var_pos _)

/-- Scaling a scale and a shift by a number at least nought. -/
theorem gate_distrib (g : ℝ) (hg : 0 ≤ g) (lw y lb : EReal) :
    (g : EReal) * (lw * y + lb) = ((g : EReal) * lw) * y + (g : EReal) * lb := by
  rw [EReal.left_distrib_of_nonneg_of_ne_top (by exact_mod_cast hg) (EReal.coe_ne_top g), mul_assoc]

/-- The softmax of two numbers, the greater first: its first entry, as the kernel writes it, is a number in `[0, 1]`,
and its second entry is what is left of one. -/
theorem softmax2 (x y : ℝ) :
    ∃ g : ℝ, 0 ≤ g ∧ g ≤ 1 ∧
      Ideal.div 1 (1 + Ideal.exp ((y : EReal) - (x : EReal))) = (g : EReal) ∧
      Ideal.div (Ideal.exp ((x : EReal) - (x : EReal))) (Ideal.exp ((x : EReal) - (x : EReal)) + Ideal.exp ((y : EReal) - (x : EReal))) = (g : EReal) ∧
      Ideal.div (Ideal.exp ((y : EReal) - (x : EReal))) (Ideal.exp ((x : EReal) - (x : EReal)) + Ideal.exp ((y : EReal) - (x : EReal))) = ((1 - g : ℝ) : EReal) := by
  have ht := Real.exp_pos (y - x)
  have h1 : 1 + Real.exp (y - x) ≠ 0 := by positivity
  have e : (1 : EReal) + ((Real.exp (y - x) : ℝ) : EReal) = ((1 + Real.exp (y - x) : ℝ) : EReal) := by push_cast; rfl
  refine ⟨1 / (1 + Real.exp (y - x)), by positivity, ?_, ?_, ?_, ?_⟩
  · rw [div_le_one (by positivity)]; linarith
  · rw [← EReal.coe_sub, Ideal.exp_coe, e, Ideal.div_coe h1, one_mul]
  · rw [← EReal.coe_sub, ← EReal.coe_sub, Ideal.exp_coe, Ideal.exp_coe, sub_self, Real.exp_zero, EReal.coe_one, e, Ideal.div_coe h1, one_mul]
  · rw [← EReal.coe_sub, ← EReal.coe_sub, Ideal.exp_coe, Ideal.exp_coe, sub_self, Real.exp_zero, EReal.coe_one, e, Ideal.div_coe h1, ← EReal.coe_mul]
    congr 1
    field_simp
    ring

/-- Finite terms have a finite sum. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert j s hj ih =>
    obtain ⟨r, hr⟩ := h j (Finset.mem_insert_self _ _)
    obtain ⟨q, hq⟩ := ih fun i hi => h i (Finset.mem_insert_of_mem hi)
    exact ⟨r + q, by rw [Finset.sum_insert hj, hr, hq, EReal.coe_add]⟩

end Cert.Proof.Math
-- ==== Proof.Conv.lean ====
module

public import proofs.«01_k».proof.Proof.Math
public import Idealize.ShloMosaic.Lib.Pointwise
public import Idealize.ShloMosaic.Lib.Pipeline.ValueKit.Acc

/-! A patch against a filter, as a sum over channel, row and column, and the same sum laid out flat. -/

@[expose] public section

noncomputable section

open scoped BigOperators

namespace Cert.Proof.Math

/-- The patch at `(h, w)` of an image against a filter. -/
def conv (x : Fin 96 → Fin 224 → Fin 224 → EReal) (f : Fin 96 → Fin 16 → Fin 16 → EReal) (h w : Fin 14) : EReal :=
  ∑ c : Fin 96, ∑ p : Fin 16, ∑ q : Fin 16, x c ⟨h.val * 16 + p.val, by omega⟩ ⟨w.val * 16 + q.val, by omega⟩ * f c p q

theorem conv_flat (x : Fin 96 → Fin 224 → Fin 224 → EReal) (f : Fin 96 → Fin 16 → Fin 16 → EReal) (h w : Fin 14) :
    ∑ k : Fin 24576, x ⟨k.val / 256, by omega⟩ ⟨h.val * 16 + k.val / 16 % 16, by omega⟩ ⟨w.val * 16 + k.val % 16, by omega⟩ *
      f ⟨k.val / 256, by omega⟩ ⟨k.val / 16 % 16, by omega⟩ ⟨k.val % 16, by omega⟩ = conv x f h w := by
  unfold conv
  have step : ∀ c : Fin 96, ∑ p : Fin 16, ∑ q : Fin 16, x c ⟨h.val * 16 + p.val, by omega⟩ ⟨w.val * 16 + q.val, by omega⟩ * f c p q =
      ∑ j : Fin 256, x c ⟨h.val * 16 + j.val / 16, by omega⟩ ⟨w.val * 16 + j.val % 16, by omega⟩ * f c ⟨j.val / 16, by omega⟩ ⟨j.val % 16, by omega⟩ :=
    fun c => (Fin.sum_divmod_fin (N := 256) (A := 16) 16 (fun p q => x c ⟨h.val * 16 + p.val, by omega⟩ ⟨w.val * 16 + q.val, by omega⟩ * f c p q)).symm
  simp only [step]
  refine Fin.sum_divmod_congr (N := 24576) (A := 96) (S := 256) fun k ha hs => ?_
  have e1 : k.val % 256 / 16 = k.val / 16 % 16 := by omega
  have e2 : k.val % 256 % 16 = k.val % 16 := by omega
  simp only [e1, e2]

end Cert.Proof.Math
-- ==== Proof.TopK.lean ====
/-
  What a stable top-k of eight numbers returns: its first two values are those at the first greatest place and at the
  second, and its first two indices are these places.
-/
module

public import proofs.«01_k».proof.Proof.Math
public import Idealize.ShloMosaic.Lib.SortPrefix
public import Idealize.ShloMosaic.Lib.Pointwise

@[expose] public section

open Idealize.ShloMosaic

namespace Cert.Proof.Math

/-- A stable sort by keys is the sort by keys and then positions, of a list in increasing positions. -/
theorem stableSort_positions {n : Nat} (B : Fin n → Fin n → Bool) (E : Fin n → Fin n → Bool) (l : List (Fin n))
    (hl : l.Pairwise (· < ·)) :
    stableSort B l = stableSort (fun k k' => B k k' || (E k k' && decide (k < k'))) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have := hl.1 b hb'
    simp [not_lt.mpr this.le]

/-- The first two places of a stable sort of eight numbers, greater first. -/
theorem sorted_two {l : Fin 8 → EReal} {a b : Fin 8} (h : Top2 l a b) (B : Fin 8 → Fin 8 → Bool)
    (hB : ∀ k k', B k k' = decide (l k' < l k)) : sortedFrom B 0 = a ∧ sortedFrom B 1 = b := by
  classical
  let lt : EReal → EReal → Bool := fun x y => decide (y < x)
  let L : Fin 8 → Fin 8 → Bool := fun k k' => lt (l k) (l k') || (decide (l k = l k') && decide (k < k'))
  have hL : StrictTotalBefore L :=
    StrictTotalBefore.of_key_then_position lt l (by simp [lt])
      (fun x y z hx hy => by simp only [lt, decide_eq_true_eq] at *; exact hy.trans hx)
      (fun x y => by
        simp only [lt, decide_eq_true_eq]
        rcases lt_trichotomy x y with h | h | h
        · exact Or.inr (Or.inr h)
        · exact Or.inr (Or.inl h)
        · exact Or.inl h)
  have hBL : sortedFrom B = sortedFrom L := by
    have hs : sortPositions 8 B = sortPositions 8 L := by
      obtain rfl : B = fun k k' => decide (l k' < l k) := by funext k k'; exact hB k k'
      exact stableSort_positions _ (fun k k' => decide (l k = l k')) _ (List.pairwise_lt_finRange 8)
    funext k
    unfold sortedFrom
    rw [List.get_of_eq hs]
    rfl
  have key : ∀ i : Fin 2, sortedFrom L (i.castLE (by decide : 2 ≤ 8)) = (![a, b] : Fin 2 → Fin 8) i := by
    refine hL.sortedFrom_eq_of_prefix (by decide) ![a, b] ?_ ?_ ?_
    · intro i j hij
      fin_cases i <;> fin_cases j <;> simp_all [h.ne, h.ne.symm]
    · intro i j hij
      fin_cases i <;> fin_cases j <;> first | exact absurd hij (by decide) | skip
      show (decide (l a < l b) || (decide (l b = l a) && decide (b < a))) = false
      have h1 := h.fst.le b
      have h2 := h.fst.first b
      by_cases e : l b = l a
      · simp [e, not_lt.mpr (h2 e)]
      · simp [e, not_lt.mpr h1]
    · intro i p hp
      have hpa : p ≠ a := fun e => hp 0 e.symm
      have hpb : p ≠ b := fun e => hp 1 e.symm
      fin_cases i
      · show (decide (l a < l p) || (decide (l p = l a) && decide (p < a))) = false
        have h1 := h.fst.le p
        by_cases e : l p = l a
        · simp [e, not_lt.mpr (h.fst.first p e)]
        · simp [e, not_lt.mpr h1]
      · show (decide (l b < l p) || (decide (l p = l b) && decide (p < b))) = false
        have h1 := h.le p hpa
        by_cases e : l p = l b
        · simp [e, not_lt.mpr (h.first p hpa e)]
        · simp [e, not_lt.mpr h1]
  rw [hBL]
  exact ⟨key 0, key 1⟩

end Cert.Proof.Math
-- ==== Proof.RefGate.lean ====
module

public import proofs.«01_k».proof.Proof.TopK
public import proofs.«01_k».proof.Proof.Gen.ReferenceIdeal.Run
public import Idealize.ShloMosaic.Lib.Routing.OpsPair

/-! The reference's gates: the logits, the two greatest of them, the softmax of these, and the table of eight weights a
sample. -/

@[expose] public section

open scoped BigOperators

noncomputable section

namespace Cert.Proof.Ref

open Idealize.ShloMosaic Idealize.ShloMosaic.TcCoe Cert.ReferenceIdeal Cert.ReferenceIdeal.Gen
open Cert.Proof.Math

/-- The reference's logits. -/
def logits (x : FVec Ideal S4x96x224x224 .f32) (g : FVec Ideal S96x8 .f32) : FVec Ideal S4x8 .f32 :=
  Host.dotGeneral dot_S4x96_S96x8_S4x8_1_0_0_1_n_n none
    (Host.divf (Host.reduceAdd x (constant S_ .f32 0x00000000#32) reducesTo_S4x96x224x224_S4x96_d2_3 h_S_)
      (broadcastInDim S4x96 ![] bcast_S_S4x96 (constant S_ .f32 0x47440000#32))) g

/-- The two greatest logits. -/
def tops (l : FVec Ideal S4x8 .f32) : FVec Ideal S4x2 .f32 :=
  extractStridedSlice S4x2 ![0, 0] ((Host.topK S4x3 1 (FloatOps.cmpfTotal .gt) l sliceFits_S4x8_S4x3).1) slices_S4x3_S4x2_0_0

/-- Their places. -/
def places (l : FVec Ideal S4x8 .f32) : IVec S4x2 32 :=
  extractStridedSlice S4x2 ![0, 0] ((Host.topK S4x3 1 (FloatOps.cmpfTotal .gt) l sliceFits_S4x8_S4x3).2) slices_S4x3_S4x2_0_0

/-- The exponentials of the two, less the greater. -/
def exps (t : FVec Ideal S4x2 .f32) : FVec Ideal S4x2 .f32 :=
  Host.exp (subf t (broadcastInDim S4x2 ![0, 1] bcast_S4x1_S4x2_0_1 (broadcastInDim S4x1 ![0] bcast_S4_S4x1_0
    (maximumf (broadcastInDim S4 ![] bcast_S_S4 (constant S_ .f32 0xFF800000#32))
      (Host.reduce FloatOps.maximumf t (constant S_ .f32 0xFF800000#32) reducesTo_S4x2_S4_d1 h_S_)))))

/-- Their softmax. -/
def soft (t : FVec Ideal S4x2 .f32) : FVec Ideal S4x2 .f32 :=
  Host.divf (exps t) (broadcastInDim S4x2 ![0, 1] bcast_S4x1_S4x2_0_1 (broadcastInDim S4x1 ![0] bcast_S4_S4x1_0
    (Host.reduceAdd (exps t) (constant S_ .f32 0x00000000#32) reducesTo_S4x2_S4_d1 h_S_)))

/-- Where each of the weights goes: its sample and its expert. -/
def targets (p : IVec S4x2 32) : IVec S4x2x2 32 :=
  concatenate S4x2x2 2 [⟨S4x2x1, (broadcastInDim S4x2x1 ![0, 1] bcast_S4x2_S4x2x1_0_1 (broadcastInDim S4x2 ![0, 1] bcast_S4x1_S4x2_0_1
    (select (cmpi .slt (broadcastInDim S4x1 ![0] bcast_S4_S4x1_0 (iotaInDim S4 32 0)) (broadcastInDim S4x1 ![] bcast_S_S4x1 (constantI S_ 32 0#32)))
      (addi (broadcastInDim S4x1 ![0] bcast_S4_S4x1_0 (iotaInDim S4 32 0)) (broadcastInDim S4x1 ![] bcast_S_S4x1 (constantI S_ 32 4#32)))
      (broadcastInDim S4x1 ![0] bcast_S4_S4x1_0 (iotaInDim S4 32 0)))))⟩,
    ⟨S4x2x1, (broadcastInDim S4x2x1 ![0, 1] bcast_S4x2_S4x2x1_0_1
      (select (cmpi .slt p (broadcastInDim S4x2 ![] bcast_S_S4x2 (constantI S_ 32 0#32)))
        (addi p (broadcastInDim S4x2 ![] bcast_S_S4x2 (constantI S_ 32 8#32))) p))⟩] concatenates_S4x2x1_S4x2x1_S4x2x2_d2

/-- The table of weights. -/
def gates (l : FVec Ideal S4x8 .f32) : FVec Ideal S4x8 .f32 :=
  Host.scatter scatter_S4x8_S4x2x2_S4x2_n_01_01_2 (fun _ b => b) (broadcastInDim S4x8 ![] bcast_S_S4x8 (constant S_ .f32 0x00000000#32))
    (targets (places l)) (soft (tops l))

theorem topK_at (l : FVec Ideal S4x8 .f32) (b : Fin 4) {p q : Fin 8} (h : Top2 (fun e => l (ix2 b e)) p q) :
    tops l (ix2 b 0) = l (ix2 b p) ∧ tops l (ix2 b 1) = l (ix2 b q) ∧
    places l (ix2 b 0) = BitVec.ofNat 32 p.val ∧ places l (ix2 b 1) = BitVec.ofNat 32 q.val := by
  have hB : ∀ k k' : Fin 8, (FloatOps.cmpfTotal (F := Ideal) (φ := .f32) .gt (l (ix2 b k)) (l (ix2 b k')) == 1#1) =
      decide (l (ix2 b k') < l (ix2 b k)) := by
    intro k k'
    rw [Ideal.cmpfTotal_def]
    show (BitVec.ofBool (decide (l (ix2 b k') < l (ix2 b k))) == 1#1) = _
    by_cases c : l (ix2 b k') < l (ix2 b k) <;> simp [c]
  obtain ⟨s0, s1⟩ := sorted_two h _ hB
  have e1 : ∀ (i : Fin 8) (k : Fin 8), (ix2 b i : S4x8.Idx).along 1 k 1 = k := fun i k => rfl
  have e : ∀ (i : Fin 8) (k : Fin 8), (ix2 b i : S4x8.Idx).along 1 k = ix2 b k := by
    intro i k; funext d; match d with | ⟨0, _⟩ => rfl | ⟨1, _⟩ => rfl
  pointwise [tops, places, Host.topK, Host.sort2]
  simp only [e]
  rw [s0, s1]
  exact ⟨rfl, rfl, rfl, rfl⟩

theorem soft_at (t : FVec Ideal S4x2 .f32) (b : Fin 4) (h : t (ix2 b 1) ≤ t (ix2 b 0)) (k : Fin 2) :
    soft t (ix2 b k) = Ideal.div (Ideal.exp (t (ix2 b k) - t (ix2 b 0)))
      (Ideal.exp (t (ix2 b 0) - t (ix2 b 0)) + Ideal.exp (t (ix2 b 1) - t (ix2 b 0))) := by
  have hf : Finset.fold max (Ideal.ofBits FTy.f32 4286578688#32) (fun x : Fin 2 => t (ix2 b x)) Finset.univ = t (ix2 b 0) := by
    refine le_antisymm ((Finset.fold_max_le _).mpr ⟨by rw [litBot]; exact bot_le, fun j _ => ?_⟩)
      ((Finset.le_fold_max _).mpr (Or.inr ⟨0, Finset.mem_univ _, le_rfl⟩))
    fin_cases j
    · exact le_rfl
    · exact h
  pointwise [soft, exps]
  rw [hf, litBot, max_eq_right bot_le, Fin.sum_univ_two]

theorem wrap4 : ∀ b : Fin 4, (Scalar.select (IntOp.cmpi .slt (BitVec.ofNat 32 b.val) 0#32)
    (IntOp.addi (BitVec.ofNat 32 b.val) 4#32) (BitVec.ofNat 32 b.val)).toInt = b.val := by decide

theorem wrap8 : ∀ b : Fin 8, (Scalar.select (IntOp.cmpi .slt (BitVec.ofNat 32 b.val) 0#32)
    (IntOp.addi (BitVec.ofNat 32 b.val) 8#32) (BitVec.ofNat 32 b.val)).toInt = b.val := by decide

theorem targets_at (p : IVec S4x2 32) (b : Fin 4) (k : Fin 2) {e : Fin 8} (h : p (ix2 b k) = BitVec.ofNat 32 e.val) :
    (targets p (ix3 b k 0)).toInt = b.val ∧ (targets p (ix3 b k 1)).toInt = e.val := by
  constructor
  · pointwise [targets]
    exact wrap4 b
  · pointwise [targets]
    rw [h]
    exact wrap8 e

theorem scatter_at (x : FVec Ideal S4x8 .f32) (idx : IVec S4x2x2 32) (u : FVec Ideal S4x2 .f32) (sel : Fin 4 → Fin 2 → Fin 8)
    (h0 : ∀ b k, (idx (ix3 b k 0)).toInt = b.val) (h1 : ∀ b k, (idx (ix3 b k 1)).toInt = (sel b k).val) (b : Fin 4) (e : Fin 8) :
    Host.scatter scatter_S4x8_S4x2x2_S4x2_n_01_01_2 (fun _ b => b) x idx u (ix2 b e) =
      if sel b 1 = e then u (ix2 b 1) else if sel b 0 = e then u (ix2 b 0) else x (ix2 b e) := by
  rw [Routing.scatter_at]
  have step : ∀ (n : Fin S4x2.numel) (hn : n.val < 8) (a : EReal),
      (if scatter_S4x8_S4x2x2_S4x2_n_01_01_2.resultIdx? (S4x2.rowMajor.symm n) idx = some (ix2 b e)
        then u (S4x2.rowMajor.symm n) else a) =
      if (⟨n.val / 2, by omega⟩ : Fin 4) = b ∧ sel ⟨n.val / 2, by omega⟩ ⟨n.val % 2, by omega⟩ = e
        then u (ix2 ⟨n.val / 2, by omega⟩ ⟨n.val % 2, by omega⟩) else a := by
    intro n hn a
    have hs : S4x2.rowMajor.symm n = ix2 (⟨n.val / 2, by omega⟩ : Fin 4) (⟨n.val % 2, by omega⟩ : Fin 2) :=
      Routing.symm22 (A := 4) (B := 2) n _ _
    rw [hs]
    refine if_congr ((Routing.scatter_lands2 (R := 4) (C := 8) (A := 4) (B := 2) scatter_S4x8_S4x2x2_S4x2_n_01_01_2
      rfl rfl rfl idx _ _ b e).trans ⟨?_, ?_⟩) rfl rfl
    · rintro ⟨h, h'⟩
      have g := (h0 _ _).symm.trans h
      have g' := (h1 _ _).symm.trans h'
      exact ⟨Fin.ext (by exact_mod_cast g), Fin.ext (by exact_mod_cast g')⟩
    · rintro ⟨h, h'⟩
      exact ⟨(h0 _ _).trans (by rw [← h]), (h1 _ _).trans (by rw [← h'])⟩
  refine (congrArg (fun f => List.foldl f (x (ix2 b e)) (List.finRange S4x2.numel))
    (funext fun a => funext fun n : Fin S4x2.numel => step n n.isLt a)).trans ?_
  show List.foldl (fun (a : EReal) (n : Fin 8) => if (⟨n.val / 2, by omega⟩ : Fin 4) = b ∧ sel ⟨n.val / 2, by omega⟩ ⟨n.val % 2, by omega⟩ = e
        then u (ix2 ⟨n.val / 2, by omega⟩ ⟨n.val % 2, by omega⟩) else a) (x (ix2 b e)) (List.finRange 8) = _
  rw [show List.finRange 8 = [0, 1, 2, 3, 4, 5, 6, 7] from by decide]
  fin_cases b <;> simp [List.foldl]

/-- The weight of an expert: its share of the softmax if it is one of the two, zero otherwise. -/
theorem gates_at (l : FVec Ideal S4x8 .f32) (P Q : Fin 4 → Fin 8) (h : ∀ b, Top2 (fun e => l (ix2 b e)) (P b) (Q b))
    (b : Fin 4) (e : Fin 8) :
    gates l (ix2 b e) =
      if Q b = e then Ideal.div (Ideal.exp (l (ix2 b (Q b)) - l (ix2 b (P b))))
        (Ideal.exp (l (ix2 b (P b)) - l (ix2 b (P b))) + Ideal.exp (l (ix2 b (Q b)) - l (ix2 b (P b))))
      else if P b = e then Ideal.div (Ideal.exp (l (ix2 b (P b)) - l (ix2 b (P b))))
        (Ideal.exp (l (ix2 b (P b)) - l (ix2 b (P b))) + Ideal.exp (l (ix2 b (Q b)) - l (ix2 b (P b))))
      else 0 := by
  have T := fun b => topK_at l b (h b)
  have hT : ∀ b k, places l (ix2 b k) = BitVec.ofNat 32 ((![P b, Q b] : Fin 2 → Fin 8) k).val := by
    intro b k
    fin_cases k
    · exact (T b).2.2.1
    · exact (T b).2.2.2
  have hle : tops l (ix2 b 1) ≤ tops l (ix2 b 0) := by
    rw [(T b).1, (T b).2.1]; exact (h b).fst.le (Q b)
  have z : (broadcastInDim S4x8 ![] bcast_S_S4x8 (constant (F := Ideal) S_ .f32 0x00000000#32)) (ix2 b e) = (0 : EReal) := by
    pointwise []
  refine (scatter_at _ _ _ (fun b => ![P b, Q b]) (fun b k => (targets_at _ b k (hT b k)).1)
    (fun b k => (targets_at _ b k (hT b k)).2) b e).trans ?_
  rw [soft_at _ _ hle, soft_at _ _ hle, (T b).1, (T b).2.1, z]
  rfl

end Cert.Proof.Ref
-- ==== Proof.GateBody.lean ====
/-
  The gating kernel's body at one grid point: what it leaves in each of its buffers, as a function of what it finds
  there. The grid is (image, strip of 16 rows); a strip starts the per-channel sum (first strip), adds to it (later
  strips), and the last strip of an image also computes the gates and the expert numbers.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.GateR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is a first strip of its image. -/
abbrev first (i : grid0.Coords) : Prop := (Scalar.cmpi .ne (Scalar.extui (Scalar.cmpi .eq (BitVec.ofNat 32 (i 1).val) 0#32) : BitVec 32) 0#32) = 1#1
/-- The point is a later strip of its image. -/
abbrev later (i : grid0.Coords) : Prop := (Scalar.cmpi .ne (Scalar.extui (Scalar.cmpi .sgt (BitVec.ofNat 32 (i 1).val) 0#32) : BitVec 32) 0#32) = 1#1
/-- The point is the last strip of its image. -/
abbrev last (i : grid0.Coords) : Prop := k0_cond3 i = 1#1

theorem first_iff : ∀ t : Fin grid0.N, first (grid0.coords t) ↔ t.val % 14 = 0 := by decide +kernel
theorem later_iff : ∀ t : Fin grid0.N, later (grid0.coords t) ↔ t.val % 14 ≠ 0 := by decide +kernel
theorem last_iff : ∀ t : Fin grid0.N, last (grid0.coords t) ↔ t.val % 14 = 13 := by decide +kernel

/-- The gates' row the last strip stores, from the finished sums and the gating weights. -/
def gatesRow (s : Vec F S96x1 .f32) (wg : Vec F S96x8 .f32) : Vec F S1x1x8 .f32 :=
  k0_pay6 (iota .tc S1x8 32 [1] iota_S1x8_d1_w32) (k0_pay14 s wg) (k0_pay15 s wg) k0_pay16 k0_pay17 2#32
/-- The expert numbers' row the last strip stores. -/
def idxRow (s : Vec F S96x1 .f32) (wg : Vec F S96x8 .f32) : Vec F S1x1x8 .i32 :=
  k0_pay7 (iota .tc S1x8 32 [1] iota_S1x8_d1_w32) (k0_pay10 s wg) (k0_pay13 s wg)

section Body
variable (c : Dev nD) (i : grid0.Coords)
  (arg2 : Memref sig .tc .vmem S1x96x16x224 .f32) (harg2 : arg2.IsWhole) (arg3 : Memref sig .tc .vmem S96x8 .f32) (harg3 : arg3.IsWhole)
  (arg4 : Memref sig .tc .vmem S1x16x24576 .f32) (harg4 : arg4.IsWhole) (arg5 : Memref sig .tc .vmem S1x1x8 .f32) (harg5 : arg5.IsWhole)
  (arg6 : Memref sig .tc .vmem S1x1x8 .i32) (harg6 : arg6.IsWhole) (arg7 : Memref sig .tc .vmem S96x1 .f32) (harg7 : arg7.IsWhole)
  (x0 : Vec F S1x96x16x224 .f32) (x1 : Vec F S96x8 .f32)

/-- A first strip: the sums are replaced by the strip's. -/
theorem body_first (h1 : first i) (h2 : ¬later i) (h3 : ¬last i) (E : Set ℕ) (K : PUnit → sProp 𝕄) :
    iprop(owns (c : Thread nD τ) arg2 fullShare x0 ∗ (∃ d, owns (c : Thread nD τ) arg4 fullShare d)
        ∗ (∃ d, owns (c : Thread nD τ) arg7 fullShare d)
        ∗ (iprop(owns (c : Thread nD τ) arg2 fullShare x0 ∗ owns (c : Thread nD τ) arg4 fullShare (k0_pay2 x0)
            ∗ owns (c : Thread nD τ) arg7 fullShare (k0_pay4 x0)) -∗ K ⟨⟩))
      ⊢ wp frame (wpE (defs₀ (F := F)) Variants.none c none) E
          (cc0__gate_body i arg2 harg2 arg3 harg3 arg4 harg4 arg5 harg5 arg6 harg6 arg7 harg7) K := by
  simp only [cc0__gate_body_eq_skeleton]; unfold cc0__gate_body_skel
  unfold owns
  iintro ⟨⟨%f0, %hf0, H0⟩, ⟨%d2, %f2, -, H2⟩, ⟨%d7, %f7, -, H7⟩, Hk⟩
  obtain rfl := harg2.eq_unread hf0
  sl_exec (disch := first | sl_exact h1 | sl_exact h2 | sl_exact h3)
  sl_step
  iapply Hk
  isplitl [H0]
  · iexists _; isplitr; · ipureintro; exact harg2.read_unread _
    iexact H0
  isplitl [H2]
  · iexists _; isplitr
    swap; · iexact H2
    ipureintro; rw [View.read_writes_full, View.readAt_full, harg2.read_unread]
  iexists _; isplitr
  swap; · iexact H7
  ipureintro; rw [View.read_writes_full, View.readAt_full, harg2.read_unread]

/-- A later strip that is not the last: the strip's sums are added to the earlier ones. -/
theorem body_later (h1 : ¬first i) (h2 : later i) (h3 : ¬last i) (xs : Vec F S96x1 .f32) (E : Set ℕ) (K : PUnit → sProp 𝕄) :
    iprop(owns (c : Thread nD τ) arg2 fullShare x0 ∗ (∃ d, owns (c : Thread nD τ) arg4 fullShare d)
        ∗ owns (c : Thread nD τ) arg7 fullShare xs
        ∗ (iprop(owns (c : Thread nD τ) arg2 fullShare x0 ∗ owns (c : Thread nD τ) arg4 fullShare (k0_pay2 x0)
            ∗ owns (c : Thread nD τ) arg7 fullShare (k0_pay5 x0 xs)) -∗ K ⟨⟩))
      ⊢ wp frame (wpE (defs₀ (F := F)) Variants.none c none) E
          (cc0__gate_body i arg2 harg2 arg3 harg3 arg4 harg4 arg5 harg5 arg6 harg6 arg7 harg7) K := by
  simp only [cc0__gate_body_eq_skeleton]; unfold cc0__gate_body_skel
  unfold owns
  iintro ⟨⟨%f0, %hf0, H0⟩, ⟨%d2, %f2, -, H2⟩, ⟨%f7, %hf7, H7⟩, Hk⟩
  obtain rfl := harg2.eq_unread hf0
  obtain rfl := harg7.eq_unread hf7
  sl_exec (disch := first | sl_exact h1 | sl_exact h2 | sl_exact h3)
  sl_step
  iapply Hk
  isplitl [H0]
  · iexists _; isplitr; · ipureintro; exact harg2.read_unread _
    iexact H0
  isplitl [H2]
  · iexists _; isplitr
    swap; · iexact H2
    ipureintro; rw [View.read_writes_full, View.readAt_full, harg2.read_unread]
  iexists _; isplitr
  swap; · iexact H7
  ipureintro; rw [View.read_writes_full, View.readAt_full, View.readAt_full, harg2.read_unread, harg7.read_unread]

/-- The last strip: the sums are finished, and the gates' and the expert numbers' rows are stored. -/
theorem body_last (h1 : ¬first i) (h2 : later i) (h3 : last i) (xs : Vec F S96x1 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare (k0_pay2 x0)
            ∗ owns (c : Thread nD τ) arg5 fullShare (gatesRow (k0_pay5 x0 xs) x1)
            ∗ owns (c : Thread nD τ) arg6 fullShare (idxRow (k0_pay5 x0 xs) x1)
            ∗ owns (c : Thread nD τ) arg7 fullShare (k0_pay5 x0 xs)) -∗ K ⟨⟩))
      ⊢ wp frame (wpE (defs₀ (F := F)) Variants.none c none) E
          (cc0__gate_body i arg2 harg2 arg3 harg3 arg4 harg4 arg5 harg5 arg6 harg6 arg7 harg7) K := by
  simp only [cc0__gate_body_eq_skeleton]; unfold cc0__gate_body_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%f7, %hf7, H7⟩, Hk⟩
  obtain rfl := harg2.eq_unread hf0
  obtain rfl := harg3.eq_unread hf1
  obtain rfl := harg7.eq_unread hf7
  sl_exec (disch := first | sl_exact h1 | sl_exact h2 | sl_exact h3)
  sl_step
  have e0 : body_last.sl.v0 c arg2 harg2 x0 = x0 := (View.readAt_full _ _ _).trans (harg2.read_unread _)
  have e1 : View.readAt (Elt F) arg3.view (Rect.unit ![0, 0] ![96, 8] inb_S96x8_S96x8_0_0).toLoadRect (harg3.unread x1) = x1 :=
    (View.readAt_full _ _ _).trans (harg3.read_unread _)
  have e7 : arg7.view.read (Elt F) (arg7.view.writes (Elt F) (harg7.unread xs) (body_last.sl.H7_1 c arg2 harg2 arg7 harg7 x0 xs)) = k0_pay5 x0 xs := by
    refine (View.read_writes_full _ _ _ _ _).trans ?_
    dsimp only
    rw [e0, View.readAt_full, harg7.read_unread]
  have e24 : body_last.sl.v24 c arg2 harg2 arg7 harg7 x0 xs = k0_pay5 x0 xs := by
    refine (View.readCov_full _ _ _ _ _).trans ?_
    dsimp only
    rw [e0, View.readAt_full, harg7.read_unread]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro; refine (View.read_writes_full _ _ _ _ _).trans ?_
    rw [e0]
  isplitl [H3]
  · iexists _; isplitr
    swap; · iexact H3
    ipureintro; refine (View.read_writes_full _ _ _ _ _).trans ?_
    dsimp only [body_last.sl.v32, body_last.sl.r_2, body_last.sl.r_3, gatesRow]
    rw [e1, e24]
  isplitl [H4]
  · iexists _; isplitr
    swap; · iexact H4
    ipureintro; refine (View.read_writes_full _ _ _ _ _).trans ?_
    dsimp only [body_last.sl.v32, body_last.sl.r, body_last.sl.r_1, idxRow]
    rw [e1, e24]
  iexists _; isplitr
  swap; · iexact H7
  ipureintro; exact e7

end Body

end Cert.Proof.GateR

end
-- ==== Proof.GateRegion.lean ====
/-
  The gating kernel as a pipelined region: what each of its arrays' staging buffers holds after every grid point, the
  invariant that carries the per-channel sums from strip to strip, and the proof that the body keeps to both.
-/
module

public import proofs.«01_k».proof.Proof.GateBody

@[expose] public section

set_option maxRecDepth 16384

noncomputable section

namespace Cert.Proof.GateR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the arrays hold when the region is entered. -/
abbrev Val₀ (F : FTy → Type) := (c : Dev nD) → (b : Ref sig .tc) → Buf (Elt F) ((c : Thread nD τ).loc b)

variable (V : Val₀ F) (c : Dev nD)

/-- Window `w`'s block at point `t`, read off its array. -/
def iblk (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Strip number `n` of the images, `n` counted round the grid. -/
def strip (n : ℕ) : Vec F S1x96x16x224 .f32 := iblk V c 0 ⟨n % 56, Nat.mod_lt _ (by decide)⟩
/-- The gating weights, as staged at point `n`. -/
def wgate (n : ℕ) : Vec F S96x8 .f32 := iblk V c 1 ⟨n % 56, Nat.mod_lt _ (by decide)⟩

/-- The per-channel sums after point `n`: restarted at an image's first strip, added to afterwards. -/
def sums : ℕ → Vec F S96x1 .f32
  | 0 => k0_pay4 (strip V c 0)
  | n + 1 => if (n + 1) % 14 = 0 then k0_pay4 (strip V c (n + 1)) else k0_pay5 (strip V c (n + 1)) (sums n)

theorem sums_first (n : ℕ) (h : n % 14 = 0) : sums V c n = k0_pay4 (strip V c n) := by
  cases n with
  | zero => rfl
  | succ n => exact if_pos h

theorem sums_later (n : ℕ) (h : n % 14 ≠ 0) : sums V c n = k0_pay5 (strip V c n) (sums V c (n - 1)) := by
  cases n with
  | zero => exact absurd (Nat.zero_mod _) h
  | succ n => exact if_neg h

/-- The sums' buffer. -/
abbrev scM : Memref sig .tc .vmem S96x1 .f32 := Memref.whole cc0_scratch0

/-- The scoped buffers the region does not touch. -/
abbrev others : sProp 𝕄 :=
  Pipeline.scopedRestBut (Ix := Unit) (Name := ℕ) (U := UR sig nD τ) (Lvl := ℕ) (Val := Elt F) spec0 c [cc0_scratch0]

/-- Before point `n`: the sums' buffer at what the point before left (anything before the first), the rest untouched. -/
def inv (n : ℕ) : sProp 𝕄 :=
  iprop((∃ d, ⌜n ≠ 0 → d = sums V c (n - 1)⌝ ∗ owns (c : Thread nD τ) scM fullShare d) ∗ others (F := F) c)

/-- The region's proof data. -/
def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay2 (strip V c t.val)
    | ⟨3, _⟩ => gatesRow (sums V c t.val) (wgate V c t.val)
    | ⟨4, _⟩ => idxRow (sums V c t.val) (wgate V c t.val)
  Φ t := inv V c t.val
  q _ := fullShare
  owed _ := 0

theorem A_eq (w : Fin cfg0.W) : (dat V c).A w = V c (Pipeline.arrRef spec0 w) := by dsimp only [dat]
theorem after_0 (t : Fin cfg0.N) : (dat V c).after 0 t = iblk V c 0 t := by dsimp only [dat]
theorem after_1 (t : Fin cfg0.N) : (dat V c).after 1 t = iblk V c 1 t := by dsimp only [dat]
theorem after_2 (t : Fin cfg0.N) : (dat V c).after 2 t = k0_pay2 (strip V c t.val) := by dsimp only [dat]
theorem after_3 (t : Fin cfg0.N) : (dat V c).after 3 t = gatesRow (sums V c t.val) (wgate V c t.val) := by dsimp only [dat]
theorem after_4 (t : Fin cfg0.N) : (dat V c).after 4 t = idxRow (sums V c t.val) (wgate V c t.val) := by dsimp only [dat]

theorem before_0 (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem strip_eq (t : Fin cfg0.N) : strip V c t.val = iblk V c 0 t := by
  unfold strip; congr 1; exact Fin.ext (Nat.mod_eq_of_lt (lt_of_lt_of_eq t.isLt N_0))
theorem wgate_eq (t : Fin cfg0.N) : wgate V c t.val = iblk V c 1 t := by
  unfold wgate; congr 1

/-- Away from an image's last strip the two small results are neither written nor flushed. -/
theorem idle_3 : ∀ t : Fin cfg0.N, t.val % 14 ≠ 13 → cfg0.idle 3 (grid0.coords t) = true ∧ (cfg0.win 3).flush t = false := by decide +kernel
theorem idle_4 : ∀ t : Fin cfg0.N, t.val % 14 ≠ 13 → cfg0.idle 4 (grid0.coords t) = true ∧ (cfg0.win 4).flush t = false := by decide +kernel
theorem live_3 : ∀ t : Fin cfg0.N, t.val % 14 = 13 → cfg0.idle 3 (grid0.coords t) = false := by decide +kernel
theorem live_4 : ∀ t : Fin cfg0.N, t.val % 14 = 13 → cfg0.idle 4 (grid0.coords t) = false := by decide +kernel
theorem live_012 : ∀ t : Fin cfg0.N, cfg0.idle 0 (grid0.coords t) = false ∧ cfg0.idle 1 (grid0.coords t) = false ∧ cfg0.idle 2 (grid0.coords t) = false :=
  fun _ => ⟨rfl, rfl, rfl⟩

/-- What the body must leave in a window it is not idle on. -/
theorem leaves_live (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

theorem body_row (t : Fin cfg0.N) : defs₀ (F := F) .tc cfg0.body (cfg0.bodyArgs t (cfg0.slots t)) = bodyAt0 t := by
  unfold defs₀; rw [Defs.onTc_tc]

/-- The body at any point, from what the pipeline hands it to what it must leave. -/
theorem at_point (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d)))
    ⊢ wp frame (wpE (defs₀ (F := F)) Variants.none c none) Set.univ (bodyAt0 t) (fun _ =>
      iprop((dat V c).Φ t.succ ∗ (dat V c).owesAt () t.succ
        ∗ (dat V c).leavesExact 0 t ∗ (dat V c).leavesExact 1 t ∗ (dat V c).leavesExact 2 t
        ∗ (dat V c).leavesExact 3 t ∗ (dat V c).leavesExact 4 t)) := by
  simp only [before_0, before_1]
  rw [show (dat V c).owesAt () t.succ = (dat V c).owesAt () t.castSucc from rfl,
    show (dat V c).Φ t.castSucc = inv V c t.val from rfl, show (dat V c).Φ t.succ = inv V c (t.val + 1) from rfl,
    leaves_live V c 0 t (live_012 t).1, leaves_live V c 1 t (live_012 t).2.1, leaves_live V c 2 t (live_012 t).2.2,
    after_0, after_1, after_2, strip_eq]
  unfold inv bodyAt0
  by_cases h0 : t.val % 14 = 0
  · have h3 : t.val % 14 ≠ 13 := by omega
    rw [Dat.leavesExact_idle (dat V c) 3 t (idle_3 t h3).1 (idle_3 t h3).2, Dat.leavesExact_idle (dat V c) 4 t (idle_4 t h3).1 (idle_4 t h3).2]
    iintro ⟨⟨⟨%s, -, HS⟩, Hr⟩, Ho, ⟨%d0, H0⟩, H1, ⟨%d2, H2⟩, H3, H4⟩
    iapply (body_first c (grid0.coords t) _ _ _ _ _ _ _ _ _ _ _ _ (iblk V c 0 t) ((first_iff t).mpr h0) (fun h => (later_iff t).mp h h0) (fun h => h3 ((last_iff t).mp h)) Set.univ _)
    isplitl [H0]; · iexact H0
    isplitl [H2]; · iexists _; iexact H2
    isplitl [HS]; · iexists _; iexact HS
    iintro ⟨H0, H2, HS⟩
    isplitl [HS Hr]
    · isplitl [HS]
      · iexists _; isplitr
        swap; · iexact HS
        ipureintro; intro _; rw [Nat.add_sub_cancel, sums_first V c _ h0, strip_eq]
      iexact Hr
    isplitl [Ho]; · iexact Ho
    isplitl [H0]; · iexact H0
    isplitl [H1]; · icases H1 with ⟨%d1, H1⟩; iexact H1
    isplitl [H2]; · iexact H2
    isplitl [H3]; · iexact H3
    iexact H4
  · have hz : t.val ≠ 0 := fun h => h0 (by rw [h])
    by_cases h3 : t.val % 14 = 13
    · rw [leaves_live V c 3 t (live_3 t h3), leaves_live V c 4 t (live_4 t h3), after_3, after_4, sums_later V c _ h0, strip_eq, wgate_eq]
      iintro ⟨⟨⟨%s, %hs, HS⟩, Hr⟩, Ho, ⟨%d0, H0⟩, ⟨%d1, H1⟩, ⟨%d2, H2⟩, ⟨%d3, H3⟩, ⟨%d4, H4⟩⟩
      obtain rfl := hs hz
      iapply (body_last c (grid0.coords t) _ _ _ _ _ _ _ _ _ _ _ _ (iblk V c 0 t) (iblk V c 1 t) (fun h => h0 ((first_iff t).mp h)) ((later_iff t).mpr h0) ((last_iff t).mpr h3) _ Set.univ _)
      isplitl [H0]; · iexact H0
      isplitl [H1]; · iexact H1
      isplitl [H2]; · iexists _; iexact H2
      isplitl [H3]; · iexists _; iexact H3
      isplitl [H4]; · iexists _; iexact H4
      isplitl [HS]; · iexact HS
      iintro ⟨H0, H1, H2, H3, H4, HS⟩
      isplitl [HS Hr]
      · isplitl [HS]
        · iexists _; isplitr
          swap; · iexact HS
          ipureintro; intro _; rw [Nat.add_sub_cancel, sums_later V c _ h0, strip_eq]
        iexact Hr
      isplitl [Ho]; · iexact Ho
      isplitl [H0]; · iexact H0
      isplitl [H1]; · iexact H1
      isplitl [H2]; · iexact H2
      isplitl [H3]; · iexact H3
      iexact H4
    · rw [Dat.leavesExact_idle (dat V c) 3 t (idle_3 t h3).1 (idle_3 t h3).2, Dat.leavesExact_idle (dat V c) 4 t (idle_4 t h3).1 (idle_4 t h3).2]
      iintro ⟨⟨⟨%s, %hs, HS⟩, Hr⟩, Ho, ⟨%d0, H0⟩, H1, ⟨%d2, H2⟩, H3, H4⟩
      obtain rfl := hs hz
      iapply (body_later c (grid0.coords t) _ _ _ _ _ _ _ _ _ _ _ _ (iblk V c 0 t) (fun h => h0 ((first_iff t).mp h)) ((later_iff t).mpr h0) (fun h => h3 ((last_iff t).mp h)) _ Set.univ _)
      isplitl [H0]; · iexact H0
      isplitl [H2]; · iexists _; iexact H2
      isplitl [HS]; · iexact HS
      iintro ⟨H0, H2, HS⟩
      isplitl [HS Hr]
      · isplitl [HS]
        · iexists _; isplitr
          swap; · iexact HS
          ipureintro; intro _; rw [Nat.add_sub_cancel, sums_later V c _ h0, strip_eq]
        iexact Hr
      isplitl [Ho]; · iexact Ho
      isplitl [H0]; · iexact H0
      isplitl [H1]; · icases H1 with ⟨%d1, H1⟩; iexact H1
      isplitl [H2]; · iexact H2
      isplitl [H3]; · iexact H3
      iexact H4

/-- The body keeps to the proof data at every point. -/
theorem body_obligation : BodyObligation (dat (F := F) V c) (defs₀ (F := F)) Variants.none () Set.univ := fun t => by
  rw [bigSep_W0, bigSep_W0, body_row]
  exact triple_restated (at_point V c t) rfl .rfl fun _ => .rfl

/-- The scoped buffers the pipeline does not stage: the sums' buffer, and the rest. -/
theorem rest_split : Pipeline.scopedRest (Ix := Unit) (Name := ℕ) (U := UR sig nD τ) (Lvl := ℕ) (Val := Elt F) spec0 c
    = iprop((∃ f : Buf (Elt F) ((c : Thread nD τ).loc cc0_scratch0), ((c : Thread nD τ).loc cc0_scratch0) ↦{fullShare} f) ∗ others (F := F) c) :=
  Pipeline.scopedRest_split_of_list spec0 c [cc0_scratch0] (by decide) (by decide)

/-- The scoped buffers at the region's start are the invariant before the first point. -/
theorem inv_in : Pipeline.scopedRest (Ix := Unit) (Name := ℕ) (U := UR sig nD τ) (Lvl := ℕ) (Val := Elt F) spec0 c ⊢ inv V c 0 := by
  rw [rest_split]
  unfold inv
  iintro ⟨⟨%f, Hs⟩, Hr⟩
  isplitl [Hs]
  · iexists ((scM.view).read (Elt F) f); isplitr
    · ipureintro; exact fun h => absurd rfl h
    rw [owns_whole_eq]; iexists f; isplitr
    · ipureintro; rfl
    iexact Hs
  iexact Hr

/-- The invariant after any point gives the scoped buffers back. -/
theorem inv_out (n : ℕ) : inv V c n ⊢ Pipeline.scopedRest (Ix := Unit) (Name := ℕ) (U := UR sig nD τ) (Lvl := ℕ) (Val := Elt F) spec0 c := by
  rw [rest_split]
  unfold inv
  simp only [owns_whole_eq]
  iintro ⟨⟨%d, -, %f, -, Hs⟩, Hr⟩
  isplitl [Hs]
  · iexists f; iexact Hs
  iexact Hr

end Cert.Proof.GateR

end
-- ==== Proof.GateArr.lean ====
/-
  The three arrays the gating call leaves, at an index: row `b` of the gates and of the expert numbers is what the last
  strip of image `b` stored; row `16 n + r` of the patches of image `b` is row `r` of what strip `n` stored.
-/
module

public import proofs.«01_k».proof.Proof.GateRegion
public import proofs.«01_k».proof.Proof.Gen.KernelIdeal.Points
public import Idealize.ShloMosaic.Lib.Pointwise
public import Idealize.ShloMosaic.Lib.Pipeline.ValueKit

@[expose] public section

set_option maxRecDepth 16384

noncomputable section

namespace Cert.Proof.GateR

open Cert.KernelIdeal Cert.KernelIdeal.Gen
open Idealize.ShloMosaic Idealize.ShloMosaic.TcCoe Idealize.ShloMosaic.Tactic
open Idealize.ShloMosaic.Pipeline (Dat)

variable {F : FTy → Type} [FloatOps F] [Named F]
variable (V : Val₀ F) (c : Dev nD)

theorem index : ∀ t : Fin cfg0.N, win0_0.index t = ![t.val / 14, 0, t.val % 14, 0] ∧ win0_1.index t = ![0, 0]
    ∧ win0_2.index t = ![t.val / 14, t.val % 14, 0] ∧ win0_3.index t = ![t.val / 14, 0, 0] ∧ win0_4.index t = ![t.val / 14, 0, 0] :=
  (by decide +kernel : ∀ t : Fin grid0.N, _)

/-- The patches after the call. -/
theorem patches_arr : (dat V c).arrAt 2 cfg0.N = fun i : S4x224x24576.Idx =>
    k0_pay2 (strip V c (14 * (i 0 : ℕ) + (i 1 : ℕ) / 16)) (ix3 0 ⟨(i 1 : ℕ) % 16, Nat.mod_lt _ (by decide)⟩ (i 2)) := by
  refine (dat V c).arrAt_eq_of_covers 2 _ (by decide +kernel) fun t hf y => ?_
  have ht : t.val < 56 := lt_of_lt_of_eq t.isLt N_0
  blk_simp [index t]
  rw [after_2]
  idx_bounds y
  rw [show 14 * (t.val / 14) + (t.val % 14 * 16 + (y 1 : ℕ)) / 16 = t.val by omega]
  blk_ext [index t]

/-- The gates after the call. -/
theorem gates_arr : (dat V c).arrAt 3 cfg0.N = fun i : S4x1x8.Idx =>
    gatesRow (sums V c (14 * (i 0 : ℕ) + 13)) (wgate V c (14 * (i 0 : ℕ) + 13)) (ix3 0 0 (i 2)) := by
  refine (dat V c).arrAt_eq_of_covers 3 _ (by decide +kernel) fun t hf y => ?_
  have ht : t.val < 56 := lt_of_lt_of_eq t.isLt N_0
  blk_simp [index t]
  rw [after_3]
  have h13 := (flush0_3 t).mp hf
  rw [show 14 * (t.val / 14) + 13 = t.val by omega]
  blk_ext [index t]

/-- The expert numbers after the call. -/
theorem idx_arr : (dat V c).arrAt 4 cfg0.N = fun i : S4x1x8.Idx =>
    idxRow (sums V c (14 * (i 0 : ℕ) + 13)) (wgate V c (14 * (i 0 : ℕ) + 13)) (ix3 0 0 (i 2)) := by
  refine (dat V c).arrAt_eq_of_covers 4 _ (by decide +kernel) fun t hf y => ?_
  have ht : t.val < 56 := lt_of_lt_of_eq t.isLt N_0
  blk_simp [index t]
  rw [after_4]
  have h13 := (flush0_4 t).mp hf
  rw [show 14 * (t.val / 14) + 13 = t.val by omega]
  blk_ext [index t]

end Cert.Proof.GateR

end
-- ==== Proof.GateMath.lean ====
module

public import proofs.«01_k».proof.Proof.GateArr
public import proofs.«01_k».proof.Proof.Math

/-! What the gating call's last strip of an image computes from the sums of the channels and the gate weights: the
places of the two greatest logits as words, and the two gates. -/

@[expose] public section

set_option maxRecDepth 100000

open scoped BigOperators

noncomputable section

namespace Cert.Proof.GateR

open Idealize.ShloMosaic Idealize.SL Cert.KernelIdeal Cert.KernelIdeal.Gen Cert.Proof.Math

variable (s : Vec Ideal S96x1 .f32) (w : Vec Ideal S96x8 .f32)

/-- The logit of expert `e`, as the kernel forms it. -/
def klogit (e : Fin 8) : EReal := k0_pay8 s w (ix2 0 e)

theorem klogit_eq (e : Fin 8) :
    klogit s w e = ∑ x : Fin 96, s (ix2 x 0) * ((50176⁻¹ : ℝ) : EReal) * w (ix2 x e) := by
  have h : (Named.named κ "inv_hw" 933703429#32 : Ideal .f32) = ((50176⁻¹ : ℝ) : EReal) :=
    IdealRules.named_const.ideal_named_scalar _ _ _ _ rfl
  unfold klogit
  rw [← h]
  pointwise [k0_pay8]

theorem pay9_eq {a : Fin 8} (ha : First (klogit s w) a) : k0_pay9 s w (ix2 0 0) = klogit s w a := by
  have h : k0_pay9 s w (ix2 0 0) = Finset.fold max (Ideal.ofBits .f32 4286578688#32) (klogit s w) Finset.univ := by
    unfold klogit
    pointwise [k0_pay9]
  rw [h, litBot, fold_max ha]

theorem pay10_eq {a : Fin 8} (ha : First (klogit s w) a) : k0_pay10 s w (ix2 0 0) = BitVec.ofNat 32 a.val := by
  have h : k0_pay10 s w (ix2 0 0) = Finset.fold IntOp.minsi 2147483647#32
      (fun x : Fin 8 => if klogit s w x = k0_pay9 s w (ix2 0 0) then BitVec.ofNat 32 x.val else 8#32) Finset.univ := by
    unfold klogit
    pointwise [k0_pay10]
  rw [h, pay9_eq s w ha, fold_index ha]

/-- The logits with the greatest put out. -/
theorem pay11_eq {a : Fin 8} (ha : First (klogit s w) a) (e : Fin 8) :
    k0_pay11 s w (ix2 0 e) = (if e = a then ⊥ else klogit s w e : EReal) := by
  have hm : (Named.named κ "mask" 4048155338#32 : Ideal .f32) = ⊥ :=
    IdealRules.named_const.ideal_named_scalar _ _ _ _ rfl
  have h : k0_pay11 s w (ix2 0 e) = Scalar.select (IntOp.cmpi .eq (BitVec.ofNat 32 e.val) (k0_pay10 s w (ix2 0 0)))
      (Named.named κ "mask" 4048155338#32) (klogit s w e) := by
    unfold klogit
    pointwise [k0_pay11]
  rw [h, pay10_eq s w ha, hm]
  have hc : ∀ e a : Fin 8, IntOp.cmpi .eq (BitVec.ofNat 32 e.val) (BitVec.ofNat 32 a.val) = if e = a then 1#1 else 0#1 := by
    decide
  rw [hc]
  split <;> rfl

theorem pay12_eq {a b : Fin 8} (ha : First (klogit s w) a)
    (hb : First (fun e => if e = a then ⊥ else klogit s w e) b) :
    k0_pay12 s w (ix2 0 0) = (if b = a then ⊥ else klogit s w b : EReal) := by
  have h : k0_pay12 s w (ix2 0 0) = Finset.fold max (Ideal.ofBits .f32 4286578688#32)
      (fun e : Fin 8 => k0_pay11 s w (ix2 0 e)) Finset.univ := by
    pointwise [k0_pay12]
  rw [h, litBot, funext (pay11_eq s w ha), fold_max hb]

theorem pay13_eq {a b : Fin 8} (ha : First (klogit s w) a)
    (hb : First (fun e => if e = a then ⊥ else klogit s w e) b) :
    k0_pay13 s w (ix2 0 0) = BitVec.ofNat 32 b.val := by
  have h : k0_pay13 s w (ix2 0 0) = Finset.fold IntOp.minsi 2147483647#32
      (fun x : Fin 8 => if k0_pay11 s w (ix2 0 x) = k0_pay12 s w (ix2 0 0) then BitVec.ofNat 32 x.val else 8#32)
      Finset.univ := by
    pointwise [k0_pay13]
  rw [h, pay12_eq s w ha hb]
  simp only [pay11_eq s w ha]
  exact fold_index hb

/-- The first two words of the row of expert numbers. -/
theorem idxRow_eq {a b : Fin 8} (ha : First (klogit s w) a)
    (hb : First (fun e => if e = a then ⊥ else klogit s w e) b) :
    idxRow s w (ix3 0 0 0) = BitVec.ofNat 32 a.val ∧ idxRow s w (ix3 0 0 1) = BitVec.ofNat 32 b.val ∧
      idxRow s w (ix3 0 0 2) = 8#32 := by
  have h : ∀ e : Fin 8, idxRow s w (ix3 0 0 e) = Scalar.select (IntOp.cmpi .eq (BitVec.ofNat 32 e.val) 0#32)
      (k0_pay10 s w (ix2 0 0)) (Scalar.select (IntOp.cmpi .eq (BitVec.ofNat 32 e.val) 1#32)
      (k0_pay13 s w (ix2 0 0)) 8#32) := by
    intro e
    pointwise [idxRow, k0_pay7]
  rw [h, h, h, pay10_eq s w ha, pay13_eq s w ha hb]
  exact ⟨rfl, rfl, rfl⟩

/-- The first three entries of the row of gates. -/
theorem gatesRow_eq {a b : Fin 8} (ha : First (klogit s w) a)
    (hb : First (fun e => if e = a then ⊥ else klogit s w e) b) (hne : b ≠ a) :
    gatesRow s w (ix3 0 0 0) = Ideal.div 1 (1 + Ideal.exp (klogit s w b - klogit s w a)) ∧
      gatesRow s w (ix3 0 0 1) = 1 - Ideal.div 1 (1 + Ideal.exp (klogit s w b - klogit s w a)) ∧
      gatesRow s w (ix3 0 0 2) = (1 : EReal) := by
  have h : ∀ e : Fin 8, gatesRow s w (ix3 0 0 e) = Scalar.select (IntOp.cmpi .eq (BitVec.ofNat 32 e.val) 0#32)
      (k0_pay14 s w (ix2 0 0)) (Scalar.select (IntOp.cmpi .eq (BitVec.ofNat 32 e.val) 1#32)
      (1 - k0_pay14 s w (ix2 0 0)) (Scalar.select (IntOp.cmpi .eq (BitVec.ofNat 32 e.val) 2#32) 1 0)) := by
    intro e
    pointwise [gatesRow, k0_pay6, k0_pay15, k0_pay16, k0_pay17]
  have h14 : k0_pay14 s w (ix2 0 0) = Ideal.div 1 (1 + Ideal.exp (k0_pay12 s w (ix2 0 0) - k0_pay9 s w (ix2 0 0))) := by
    pointwise [k0_pay14]
  rw [h, h, h, h14, pay9_eq s w ha, pay12_eq s w ha hb, if_neg hne]
  exact ⟨rfl, rfl, rfl⟩

/-- The places the kernel finds, and their words. -/
theorem words : ∃ a b : Fin 8, First (klogit s w) a ∧ First (fun e => if e = a then ⊥ else klogit s w e) b := by
  obtain ⟨a, ha⟩ := exists_first (klogit s w)
  obtain ⟨b, hb⟩ := exists_first fun e => if e = a then ⊥ else klogit s w e
  exact ⟨a, b, ha, hb⟩

end Cert.Proof.GateR
-- ==== Proof.GateRead.lean ====
module

public import proofs.«01_k».proof.Proof.GateMath

/-! The strips and the gate weights as the gating call finds them, and the sums of the channels. -/

@[expose] public section

set_option maxRecDepth 100000

open scoped BigOperators

noncomputable section

namespace Cert.Proof.GateR

open Idealize.ShloMosaic Idealize.ShloMosaic.TcCoe Cert.KernelIdeal Cert.KernelIdeal.Gen
open Idealize.ShloMosaic.Pipeline (Dat)

section Read
variable {F : FTy → Type} [FloatOps F] [Named F]
variable (V : Val₀ F) (c : Dev nD)

/-- Strip `j` of image `b`. -/
theorem strip_at (b : Fin 4) (j : Fin 14) (ch : Fin 96) (r : Fin 16) (w : Fin 224) :
    strip V c (14 * b.val + j.val) (ix4 0 ch r w) =
      (V c main_arg0 : Vec F S4x96x224x224 .f32) (ix4 b ch ⟨j.val * 16 + r.val, by omega⟩ w) := by
  have hb : (14 * b.val + j.val) % 56 = 14 * b.val + j.val := Nat.mod_eq_of_lt (by omega)
  unfold strip iblk
  blk_ext [index]

/-- The gate weights. -/
theorem wgate_at (n : ℕ) (ch : Fin 96) (e : Fin 8) :
    wgate V c n (ix2 ch e) = (V c main_arg1 : Vec F S96x8 .f32) (ix2 ch e) := by
  unfold wgate iblk
  blk_ext [index]

end Read

variable (V : Val₀ Ideal) (c : Dev nD)

theorem sums_upto (b : Fin 4) (ch : Fin 96) (j : ℕ) (hj : j < 14) :
    sums V c (14 * b.val + j) (ix2 ch 0) =
      ∑ k ∈ Finset.range (j + 1), ∑ r : Fin 16, ∑ w : Fin 224, strip V c (14 * b.val + k) (ix4 0 ch r w) := by
  have h4 : ∀ x : Vec Ideal S1x96x16x224 .f32,
      k0_pay4 x (ix2 ch 0) = ∑ r : Fin 16, ∑ w : Fin 224, x (ix4 0 ch r w) := by
    intro x
    pointwise [k0_pay4, k0_pay3, k0_pay1]
  have h5 : ∀ (x : Vec Ideal S1x96x16x224 .f32) (a : Vec Ideal S96x1 .f32),
      k0_pay5 x a (ix2 ch 0) = a (ix2 ch 0) + ∑ r : Fin 16, ∑ w : Fin 224, x (ix4 0 ch r w) := by
    intro x a
    pointwise [k0_pay5, k0_pay3, k0_pay1]
  induction j with
  | zero => rw [sums_first _ _ _ (by omega), h4, zero_add, Finset.sum_range_one]
  | succ j ih =>
    rw [sums_later _ _ _ (by omega), h5, Finset.sum_range_succ, ← ih (by omega)]
    rfl

/-- The sum of a channel of an image. -/
def chanSum (x : Vec Ideal S4x96x224x224 .f32) (b : Fin 4) (ch : Fin 96) : EReal :=
  ∑ h : Fin 224, ∑ w : Fin 224, x (ix4 b ch h w)

/-- The logit of expert `e` for image `b`: the means of the channels against the gate weights. -/
def logit (x : Vec Ideal S4x96x224x224 .f32) (wg : Vec Ideal S96x8 .f32) (b : Fin 4) (e : Fin 8) : EReal :=
  ∑ ch : Fin 96, Ideal.div (chanSum x b ch) (Ideal.ofBits .f32 1195638784#32) * wg (ix2 ch e)

theorem sums_total (b : Fin 4) (ch : Fin 96) :
    sums V c (14 * b.val + 13) (ix2 ch 0) = chanSum (V c main_arg0) b ch := by
  have key : ∀ x : Vec Ideal S4x96x224x224 .f32,
      (∀ (j : Fin 14) (r : Fin 16) (w : Fin 224), strip V c (14 * b.val + j.val) (ix4 0 ch r w) = x (ix4 b ch ⟨j.val * 16 + r.val, by omega⟩ w)) →
      (∑ k : Fin 14, ∑ r : Fin 16, ∑ w : Fin 224, strip V c (14 * b.val + k.val) (ix4 0 ch r w) : EReal) = chanSum x b ch := by
    intro x hx
    unfold chanSum
    exact Fin.sum_mul_add_congr fun j r _ => Finset.sum_congr rfl fun w _ => hx j r w
  rw [sums_upto V c b ch 13 (by decide), Finset.sum_range]
  exact key _ fun j r w => strip_at V c b j ch r w

theorem klogit_total (b : Fin 4) (e : Fin 8) :
    klogit (sums V c (14 * b.val + 13)) (wgate V c (14 * b.val + 13)) e =
      logit (V c main_arg0) (V c main_arg1) b e := by
  rw [klogit_eq, logit]
  refine Finset.sum_congr rfl fun ch _ => ?_
  rw [sums_total, wgate_at, Math.litHW, Ideal.div_coe (by norm_num), one_div]

end Cert.Proof.GateR
-- ==== Proof.RefConv.lean ====
module

public import proofs.«01_k».proof.Proof.Conv
public import proofs.«01_k».proof.Proof.RefGate
public import proofs.«01_k».proof.Proof.GateRead

/-! The reference's logits and its patches against the filters, at an index. -/

@[expose] public section

open scoped BigOperators

noncomputable section

namespace Cert.Proof.Ref

open Idealize.ShloMosaic Idealize.ShloMosaic.TcCoe Cert.ReferenceIdeal Cert.ReferenceIdeal.Gen
open Cert.Proof.Math

theorem logits_at (x : FVec Ideal S4x96x224x224 .f32) (g : FVec Ideal S96x8 .f32) (b : Fin 4) (e : Fin 8) :
    logits x g (ix2 b e) = GateR.logit x g b e := by
  pointwise [logits, GateR.logit, GateR.chanSum]

/-- The image cut into patches, at a patch and a place of it. -/
theorem patch_at (x : FVec Ideal S4x96x224x224 .f32) (b : Fin 4) (c : Fin 96) (h : Fin 14) (p : Fin 16) (w : Fin 14) (q : Fin 16) :
    shapeCast S4x96x14x16x14x16 x shapeCasts_S4x96x224x224_S4x96x14x16x14x16 (ix6 b c h p w q) =
      x (ix4 b c ⟨h.val * 16 + p.val, by omega⟩ ⟨w.val * 16 + q.val, by omega⟩) := by
  pointwise []

theorem dot8_at (f : FVec Ideal S8x96x96x16x16 .f32) (x : FVec Ideal S4x96x14x16x14x16 .f32) (e : Fin 8) (o : Fin 96) (b : Fin 4)
    (h w : Fin 14) :
    Host.dotGeneral dot_S8x96x96x16x16_S4x96x14x16x14x16_S8x96x4x14x14_234_135_01_024_n_n none f x (ix5 e o b h w) =
      ∑ c : Fin 96, ∑ p : Fin 16, ∑ q : Fin 16, f (ix5 e o c p q) * x (ix6 b c h p w q) := by
  simp only [Host.dotGeneral]
  rw [Ideal.dotGeneral_apply]
  refine (Fintype.sum_bijective (fun k : dot_S8x96x96x16x16_S4x96x14x16x14x16_S8x96x4x14x14_234_135_01_024_n_n.contr.Idx =>
    ((k ⟨0, by decide⟩ : Fin 96), (k ⟨1, by decide⟩ : Fin 16), (k ⟨2, by decide⟩ : Fin 16))) ⟨?_, ?_⟩ _
    (fun t : Fin 96 × Fin 16 × Fin 16 => f (ix5 e o t.1 t.2.1 t.2.2) * x (ix6 b t.1 h t.2.1 w t.2.2)) ?_).trans
    (by simp only [Fintype.sum_prod_type])
  · intro k k' hk
    funext i
    match i with
    | ⟨0, _⟩ => exact congrArg (·.1) hk
    | ⟨1, _⟩ => exact congrArg (·.2.1) hk
    | ⟨2, _⟩ => exact congrArg (·.2.2) hk
  · intro t
    exact ⟨fun i => match i with | ⟨0, _⟩ => t.1 | ⟨1, _⟩ => t.2.1 | ⟨2, _⟩ => t.2.2, rfl⟩
  · intro k
    refine congrArg₂ (· * ·) (congrArg f ?_) (congrArg x ?_)
    · funext i; match i with | ⟨0, _⟩ => rfl | ⟨1, _⟩ => rfl | ⟨2, _⟩ => rfl | ⟨3, _⟩ => rfl | ⟨4, _⟩ => rfl
    · funext i; match i with | ⟨0, _⟩ => rfl | ⟨1, _⟩ => rfl | ⟨2, _⟩ => rfl | ⟨3, _⟩ => rfl | ⟨4, _⟩ => rfl | ⟨5, _⟩ => rfl

theorem dot1_at (f : FVec Ideal S1x96x96x16x16 .f32) (x : FVec Ideal S4x96x14x16x14x16 .f32) (e : Fin 1) (o : Fin 96) (b : Fin 4)
    (h w : Fin 14) :
    Host.dotGeneral dot_S1x96x96x16x16_S4x96x14x16x14x16_S1x96x4x14x14_234_135_01_024_n_n none f x (ix5 e o b h w) =
      ∑ c : Fin 96, ∑ p : Fin 16, ∑ q : Fin 16, f (ix5 e o c p q) * x (ix6 b c h p w q) := by
  simp only [Host.dotGeneral]
  rw [Ideal.dotGeneral_apply]
  refine (Fintype.sum_bijective (fun k : dot_S1x96x96x16x16_S4x96x14x16x14x16_S1x96x4x14x14_234_135_01_024_n_n.contr.Idx =>
    ((k ⟨0, by decide⟩ : Fin 96), (k ⟨1, by decide⟩ : Fin 16), (k ⟨2, by decide⟩ : Fin 16))) ⟨?_, ?_⟩ _
    (fun t : Fin 96 × Fin 16 × Fin 16 => f (ix5 e o t.1 t.2.1 t.2.2) * x (ix6 b t.1 h t.2.1 w t.2.2)) ?_).trans
    (by simp only [Fintype.sum_prod_type])
  · intro k k' hk
    funext i
    match i with
    | ⟨0, _⟩ => exact congrArg (·.1) hk
    | ⟨1, _⟩ => exact congrArg (·.2.1) hk
    | ⟨2, _⟩ => exact congrArg (·.2.2) hk
  · intro t
    exact ⟨fun i => match i with | ⟨0, _⟩ => t.1 | ⟨1, _⟩ => t.2.1 | ⟨2, _⟩ => t.2.2, rfl⟩
  · intro k
    refine congrArg₂ (· * ·) (congrArg f ?_) (congrArg x ?_)
    · funext i; match i with | ⟨0, _⟩ => rfl | ⟨1, _⟩ => rfl | ⟨2, _⟩ => rfl | ⟨3, _⟩ => rfl | ⟨4, _⟩ => rfl
    · funext i; match i with | ⟨0, _⟩ => rfl | ⟨1, _⟩ => rfl | ⟨2, _⟩ => rfl | ⟨3, _⟩ => rfl | ⟨4, _⟩ => rfl | ⟨5, _⟩ => rfl

/-- The experts' patches against their filters, with the biases. -/
def y8 (x : FVec Ideal S4x96x224x224 .f32) (f : FVec Ideal S8x96x96x16x16 .f32) (a : FVec Ideal S8x96 .f32) : FVec Ideal S4x8x96x14x14 .f32 :=
  addf (transpose S4x8x96x14x14 [2, 0, 1, 3, 4] (Host.dotGeneral dot_S8x96x96x16x16_S4x96x14x16x14x16_S8x96x4x14x14_234_135_01_024_n_n none f
      (shapeCast _ x shapeCasts_S4x96x224x224_S4x96x14x16x14x16)) transposes_S8x96x4x14x14_S4x8x96x14x14_2_0_1_3_4)
    (broadcastInDim S4x8x96x14x14 ![0, 1, 2, 3, 4] bcast_S1x8x96x1x1_S4x8x96x14x14_0_1_2_3_4
      (broadcastInDim S1x8x96x1x1 ![1, 2] bcast_S8x96_S1x8x96x1x1_1_2 a))

/-- The shared expert's. -/
def y1 (x : FVec Ideal S4x96x224x224 .f32) (f : FVec Ideal S96x96x16x16 .f32) (a : FVec Ideal S96 .f32) : FVec Ideal S4x1x96x14x14 .f32 :=
  addf (transpose S4x1x96x14x14 [2, 0, 1, 3, 4] (Host.dotGeneral dot_S1x96x96x16x16_S4x96x14x16x14x16_S1x96x4x14x14_234_135_01_024_n_n none
      (broadcastInDim S1x96x96x16x16 ![1, 2, 3, 4] bcast_S96x96x16x16_S1x96x96x16x16_1_2_3_4 f)
      (shapeCast _ x shapeCasts_S4x96x224x224_S4x96x14x16x14x16)) transposes_S1x96x4x14x14_S4x1x96x14x14_2_0_1_3_4)
    (broadcastInDim S4x1x96x14x14 ![0, 1, 2, 3, 4] bcast_S1x1x96x1x1_S4x1x96x14x14_0_1_2_3_4
      (broadcastInDim S1x1x96x1x1 ![1, 2] bcast_S1x96_S1x1x96x1x1_1_2 (broadcastInDim S1x96 ![1] bcast_S96_S1x96_1 a)))

theorem y8_at (x : FVec Ideal S4x96x224x224 .f32) (f : FVec Ideal S8x96x96x16x16 .f32) (a : FVec Ideal S8x96 .f32)
    (b : Fin 4) (e : Fin 8) (o : Fin 96) (h w : Fin 14) :
    y8 x f a (ix5 b e o h w) =
      conv (fun ch r q => x (ix4 b ch r q)) (fun ch p q => f (ix5 e o ch p q)) h w + a (ix2 e o) := by
  have hd := dot8_at f (shapeCast _ x shapeCasts_S4x96x224x224_S4x96x14x16x14x16) e o b h w
  have key : ∀ D : FVec Ideal S8x96x4x14x14 .f32,
      addf (transpose S4x8x96x14x14 [2, 0, 1, 3, 4] D transposes_S8x96x4x14x14_S4x8x96x14x14_2_0_1_3_4)
        (broadcastInDim S4x8x96x14x14 ![0, 1, 2, 3, 4] bcast_S1x8x96x1x1_S4x8x96x14x14_0_1_2_3_4
          (broadcastInDim S1x8x96x1x1 ![1, 2] bcast_S8x96_S1x8x96x1x1_1_2 a)) (ix5 b e o h w) = D (ix5 e o b h w) + a (ix2 e o) := by
    intro D
    pointwise []
  refine (key _).trans ?_
  rw [hd]
  refine congrArg (· + _) ?_
  unfold conv
  refine Finset.sum_congr rfl fun c _ => Finset.sum_congr rfl fun p _ => Finset.sum_congr rfl fun q _ => ?_
  rw [patch_at, mul_comm]

theorem y1_at (x : FVec Ideal S4x96x224x224 .f32) (f : FVec Ideal S96x96x16x16 .f32) (a : FVec Ideal S96 .f32)
    (b : Fin 4) (e : Fin 1) (o : Fin 96) (h w : Fin 14) :
    y1 x f a (ix5 b e o h w) =
      conv (fun ch r q => x (ix4 b ch r q)) (fun ch p q => f (ix4 o ch p q)) h w + a (ix1 o) := by
  have hd := dot1_at (broadcastInDim S1x96x96x16x16 ![1, 2, 3, 4] bcast_S96x96x16x16_S1x96x96x16x16_1_2_3_4 f)
    (shapeCast _ x shapeCasts_S4x96x224x224_S4x96x14x16x14x16) e o b h w
  have key : ∀ D : FVec Ideal S1x96x4x14x14 .f32,
      addf (transpose S4x1x96x14x14 [2, 0, 1, 3, 4] D transposes_S1x96x4x14x14_S4x1x96x14x14_2_0_1_3_4)
        (broadcastInDim S4x1x96x14x14 ![0, 1, 2, 3, 4] bcast_S1x1x96x1x1_S4x1x96x14x14_0_1_2_3_4
          (broadcastInDim S1x1x96x1x1 ![1, 2] bcast_S1x96_S1x1x96x1x1_1_2 (broadcastInDim S1x96 ![1] bcast_S96_S1x96_1 a))) (ix5 b e o h w) =
        D (ix5 e o b h w) + a (ix1 o) := by
    intro D
    obtain rfl : e = 0 := Subsingleton.elim _ _
    pointwise []
  have hf : ∀ c p q, broadcastInDim S1x96x96x16x16 ![1, 2, 3, 4] bcast_S96x96x16x16_S1x96x96x16x16_1_2_3_4 f (ix5 e o c p q) = f (ix4 o c p q) := by
    intro c p q
    pointwise []
  refine (key _).trans ?_
  rw [hd]
  refine congrArg (· + _) ?_
  unfold conv
  refine Finset.sum_congr rfl fun c _ => Finset.sum_congr rfl fun p _ => Finset.sum_congr rfl fun q _ => ?_
  rw [patch_at, hf, mul_comm]

/-- The mean over the channels. -/
def mean8 (y : FVec Ideal S4x8x96x14x14 .f32) : FVec Ideal S4x8x1x14x14 .f32 :=
  Host.divf (broadcastInDim S4x8x1x14x14 ![0, 1, 3, 4] bcast_S4x8x14x14_S4x8x1x14x14_0_1_3_4
      (Host.reduceAdd y (constant S_ .f32 0x00000000#32) reducesTo_S4x8x96x14x14_S4x8x14x14_d2 h_S_))
    (broadcastInDim S4x8x1x14x14 ![] bcast_S_S4x8x1x14x14 (constant S_ .f32 0x42C00000#32))

/-- What is left of a value when the mean is taken off. -/
def dev8 (y : FVec Ideal S4x8x96x14x14 .f32) : FVec Ideal S4x8x96x14x14 .f32 :=
  subf y (broadcastInDim S4x8x96x14x14 ![0, 1, 2, 3, 4] bcast_S4x8x1x14x14_S4x8x96x14x14_0_1_2_3_4 (mean8 y))

/-- The values normalised over the channels. -/
def unit8 (y : FVec Ideal S4x8x96x14x14 .f32) : FVec Ideal S4x8x96x14x14 .f32 :=
  Host.divf (dev8 y) (broadcastInDim S4x8x96x14x14 ![0, 1, 2, 3, 4] bcast_S4x8x1x14x14_S4x8x96x14x14_0_1_2_3_4
    (Host.sqrt (addf (mean8 (mulf (dev8 y) (dev8 y))) (broadcastInDim S4x8x1x14x14 ![] bcast_S_S4x8x1x14x14 (constant S_ .f32 0x358637BD#32)))))

theorem unit8_at (y : FVec Ideal S4x8x96x14x14 .f32) (b : Fin 4) (e : Fin 8) (o : Fin 96) (h w : Fin 14) :
    unit8 y (ix5 b e o h w) = normed (fun o => y (ix5 b e o h w)) o := by
  pointwise [unit8, dev8, mean8, normed, mean96]

/-- The mean over the channels. -/
def mean1 (y : FVec Ideal S4x1x96x14x14 .f32) : FVec Ideal S4x1x1x14x14 .f32 :=
  Host.divf (broadcastInDim S4x1x1x14x14 ![0, 1, 3, 4] bcast_S4x1x14x14_S4x1x1x14x14_0_1_3_4
      (Host.reduceAdd y (constant S_ .f32 0x00000000#32) reducesTo_S4x1x96x14x14_S4x1x14x14_d2 h_S_))
    (broadcastInDim S4x1x1x14x14 ![] bcast_S_S4x1x1x14x14 (constant S_ .f32 0x42C00000#32))

/-- What is left of a value when the mean is taken off. -/
def dev1 (y : FVec Ideal S4x1x96x14x14 .f32) : FVec Ideal S4x1x96x14x14 .f32 :=
  subf y (broadcastInDim S4x1x96x14x14 ![0, 1, 2, 3, 4] bcast_S4x1x1x14x14_S4x1x96x14x14_0_1_2_3_4 (mean1 y))

/-- The values normalised over the channels. -/
def unit1 (y : FVec Ideal S4x1x96x14x14 .f32) : FVec Ideal S4x1x96x14x14 .f32 :=
  Host.divf (dev1 y) (broadcastInDim S4x1x96x14x14 ![0, 1, 2, 3, 4] bcast_S4x1x1x14x14_S4x1x96x14x14_0_1_2_3_4
    (Host.sqrt (addf (mean1 (mulf (dev1 y) (dev1 y))) (broadcastInDim S4x1x1x14x14 ![] bcast_S_S4x1x1x14x14 (constant S_ .f32 0x358637BD#32)))))

theorem unit1_at (y : FVec Ideal S4x1x96x14x14 .f32) (b : Fin 4) (e : Fin 1) (o : Fin 96) (h w : Fin 14) :
    unit1 y (ix5 b e o h w) = normed (fun o => y (ix5 b e o h w)) o := by
  obtain rfl : e = 0 := Subsingleton.elim _ _
  pointwise [unit1, dev1, mean1, normed, mean96]

end Cert.Proof.Ref
-- ==== Proof.RefValue.lean ====
module

public import proofs.«01_k».proof.Proof.RefConv

/-! The reference's result at an index. -/

@[expose] public section

open scoped BigOperators

noncomputable section

namespace Cert.Proof.Ref

open Idealize.ShloMosaic Idealize.ShloMosaic.TcCoe Cert.ReferenceIdeal Cert.ReferenceIdeal.Gen
open Cert.Proof.Math

/-- The experts' values, each with its weight, and the shared expert's. -/
def total (t : FVec Ideal S4x8 .f32) (u : FVec Ideal S4x8x96x14x14 .f32) (lw lb : FVec Ideal S8x96 .f32)
    (v : FVec Ideal S4x1x96x14x14 .f32) (sw sb : FVec Ideal S96 .f32) : FVec Ideal S4x96x14x14 .f32 :=
  addf (Host.reduceAdd (mulf (broadcastInDim S4x8x96x14x14 ![0, 1, 2, 3, 4] bcast_S4x8x1x1x1_S4x8x96x14x14_0_1_2_3_4
        (broadcastInDim S4x8x1x1x1 ![0, 1] bcast_S4x8_S4x8x1x1x1_0_1 t))
      (addf (mulf (broadcastInDim S4x8x96x14x14 ![0, 1, 2, 3, 4] bcast_S1x8x96x1x1_S4x8x96x14x14_0_1_2_3_4
          (broadcastInDim S1x8x96x1x1 ![1, 2] bcast_S8x96_S1x8x96x1x1_1_2 lw)) u)
        (broadcastInDim S4x8x96x14x14 ![0, 1, 2, 3, 4] bcast_S1x8x96x1x1_S4x8x96x14x14_0_1_2_3_4
          (broadcastInDim S1x8x96x1x1 ![1, 2] bcast_S8x96_S1x8x96x1x1_1_2 lb))))
      (constant S_ .f32 0x00000000#32) reducesTo_S4x8x96x14x14_S4x96x14x14_d1 h_S_)
    (shapeCast _ (addf (mulf (broadcastInDim S4x1x96x14x14 ![0, 1, 2, 3, 4] bcast_S1x1x96x1x1_S4x1x96x14x14_0_1_2_3_4
        (broadcastInDim S1x1x96x1x1 ![1, 2] bcast_S1x96_S1x1x96x1x1_1_2 (broadcastInDim S1x96 ![1] bcast_S96_S1x96_1 sw))) v)
      (broadcastInDim S4x1x96x14x14 ![0, 1, 2, 3, 4] bcast_S1x1x96x1x1_S4x1x96x14x14_0_1_2_3_4
        (broadcastInDim S1x1x96x1x1 ![1, 2] bcast_S1x96_S1x1x96x1x1_1_2 (broadcastInDim S1x96 ![1] bcast_S96_S1x96_1 sb))))
      shapeCasts_S4x1x96x14x14_S4x96x14x14)

theorem total_at (t : FVec Ideal S4x8 .f32) (u : FVec Ideal S4x8x96x14x14 .f32) (lw lb : FVec Ideal S8x96 .f32)
    (v : FVec Ideal S4x1x96x14x14 .f32) (sw sb : FVec Ideal S96 .f32) (b : Fin 4) (o : Fin 96) (h w : Fin 14) :
    total t u lw lb v sw sb (ix4 b o h w) =
      (∑ e : Fin 8, t (ix2 b e) * (lw (ix2 e o) * u (ix5 b e o h w) + lb (ix2 e o))) +
        (sw (ix1 o) * v (ix5 b 0 o h w) + sb (ix1 o)) := by
  pointwise [total]

set_option maxRecDepth 100000 in
/-- The reference's result by its parts. -/
theorem result (m : (ℓ : Loc nD τ sig) → Buf (Elt Ideal) ℓ) (c : Dev nD) :
    Cert.ReferenceIdeal.Value.res_main_v104 m c =
      total (gates (logits (m ((c.tc : Thread nD τ).loc main_arg0)) (m ((c.tc : Thread nD τ).loc main_arg1))))
        (unit8 (y8 (m ((c.tc : Thread nD τ).loc main_arg0)) (m ((c.tc : Thread nD τ).loc main_arg2)) (m ((c.tc : Thread nD τ).loc main_arg3))))
        (m ((c.tc : Thread nD τ).loc main_arg4)) (m ((c.tc : Thread nD τ).loc main_arg5))
        (unit1 (y1 (m ((c.tc : Thread nD τ).loc main_arg0)) (m ((c.tc : Thread nD τ).loc main_arg6)) (m ((c.tc : Thread nD τ).loc main_arg7))))
        (m ((c.tc : Thread nD τ).loc main_arg8)) (m ((c.tc : Thread nD τ).loc main_arg9)) := rfl

end Cert.Proof.Ref
-- ==== Proof.MoeBody.lean ====
/-
  The expert kernel's body at one grid point: what it leaves in its buffers, as a function of what it finds there. The
  grid is (image, block of 4096 of the 24576 patch entries, slot), a slot being one of the image's two chosen experts or
  the shared expert. A first block starts the slot's product, later blocks add to it, and the last one normalises it
  and stores (slot 0) or adds (slots 1, 2) it to the result.
-/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pointwise.Index

@[expose] public section

set_option maxRecDepth 16384

noncomputable section

namespace Cert.Proof.MoeR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The grid's coordinates, and the body's conditions on them -/

/-- The block of patch entries of point `n`. -/
abbrev kt (n : ℕ) : ℕ := n / 3 % 6
/-- The slot of point `n`. -/
abbrev slot (n : ℕ) : ℕ := n % 3

theorem coords_0 : ∀ t : Fin grid1.N, (grid1.coords t 0).val = t.val / 18 := by decide +kernel
theorem coords_1 : ∀ t : Fin grid1.N, (grid1.coords t 1).val = kt t.val := by decide +kernel
theorem coords_2 : ∀ t : Fin grid1.N, (grid1.coords t 2).val = slot t.val := by decide +kernel

theorem cond1_iff : ∀ t : Fin grid1.N, k1_cond1 (grid1.coords t) = 1#1 ↔ kt t.val = 0 := by decide +kernel
theorem cond2_iff : ∀ t : Fin grid1.N, k1_cond2 (grid1.coords t) = 1#1 ↔ kt t.val ≠ 0 := by decide +kernel
theorem cond3_iff : ∀ t : Fin grid1.N, k1_cond3 (grid1.coords t) = 1#1 ↔ kt t.val = 5 := by decide +kernel
theorem cond4_iff : ∀ t : Fin grid1.N, k1_cond4 (grid1.coords t) = 1#1 ↔ slot t.val = 0 := by decide +kernel
theorem cond5_iff : ∀ t : Fin grid1.N, k1_cond5 (grid1.coords t) = 1#1 ↔ slot t.val ≠ 0 := by decide +kernel

/-- The accumulator's row the body works on is the slot's. -/
theorem off_eq (i : grid1.Coords) : k1_off2 i = ![(i 2).val, 0, 0] := by
  have h : ∀ s : Fin 3, (Scalar.indexCast (BitVec.ofNat 32 s.val)).toNat = s.val := by decide
  unfold k1_off2
  dsimp only
  rw [h (i 2)]

/-- Row `s` of the accumulator. -/
def row (X : Vec F S3x224x96 .f32) (s : Fin 3) : Vec F S1x224x96 .f32 := fun j => X (ix3 s (j 1) (j 2))

/-- Reading the slot's row off the accumulator. -/
theorem read_row (v : View sig .tc .vmem S3x224x96 .f32) (f : v.ty.Contents (Elt F)) (i : grid1.Coords)
    (inb : ∀ a, k1_off2 i a + S1x224x96.size a ≤ S3x224x96.size a) :
    v.readAt (Elt F) (Rect.unit (s := S3x224x96) (k1_off2 i) S1x224x96.size inb).toLoadRect f = row (v.read (Elt F) f) (i 2) := by
  funext j
  have h : (Rect.unit (s := S3x224x96) (k1_off2 i) S1x224x96.size inb).idx j = ix3 (i 2) (j 1) (j 2) := by
    funext a
    have e := congrFun (off_eq i)
    refine Fin.ext ?_
    fin_cases a
    · have h0 : (j 0).val < 1 := (j 0).isLt
      show k1_off2 i 0 + 1 * (j 0).val = (i 2).val
      rw [e 0]; show (i 2).val + 1 * (j 0).val = (i 2).val
      omega
    · show k1_off2 i 1 + 1 * (j 1).val = (j 1).val
      rw [e 1]; show 0 + 1 * (j 1).val = (j 1).val
      omega
    · show k1_off2 i 2 + 1 * (j 2).val = (j 2).val
      rw [e 2]; show 0 + 1 * (j 2).val = (j 2).val
      omega
  exact congrArg (v.read (Elt F) f) h

/-- After the slot's row is stored, that row is what was stored. -/
theorem row_stored (v : View sig .tc .vmem S3x224x96 .f32) (f : v.ty.Contents (Elt F)) (i : grid1.Coords)
    (inb : ∀ a, k1_off2 i a + S1x224x96.size a ≤ S3x224x96.size a) (w : Vec F S1x224x96 .f32) :
    row (v.read (Elt F) (v.writes (Elt F) f [⟨Rect.unit (s := S3x224x96) (k1_off2 i) S1x224x96.size inb, w⟩])) (i 2) = w := by
  funext j
  refine View.read_writes_cons_unit_of_mem v f inb w [] _ j (off_eq i) fun a => ?_
  fin_cases a
  · have h0 : (j 0).val < 1 := (j 0).isLt
    show (i 2).val = (i 2).val + (j 0).val
    omega
  · show (j 1).val = 0 + (j 1).val
    omega
  · show (j 2).val = 0 + (j 2).val
    omega

/-- After the slot's row is stored, the other rows are as they were. -/
theorem row_kept (v : View sig .tc .vmem S3x224x96 .f32) (f : v.ty.Contents (Elt F)) (i : grid1.Coords)
    (inb : ∀ a, k1_off2 i a + S1x224x96.size a ≤ S3x224x96.size a) (w : Vec F S1x224x96 .f32) (r : Fin 3) (hr : r ≠ i 2) :
    row (v.read (Elt F) (v.writes (Elt F) f [⟨Rect.unit (s := S3x224x96) (k1_off2 i) S1x224x96.size inb, w⟩])) r = row (v.read (Elt F) f) r := by
  funext j
  refine (View.read_writes_cons_unit_of_not_mem v f inb w [] _ (off_eq i) 0 ?_).trans rfl
  have h : r.val ≠ (i 2).val := fun h => hr (Fin.ext h)
  show r.val < (i 2).val ∨ (i 2).val + 1 ≤ r.val
  omega

section Body
variable (c : Dev nD) (i : grid1.Coords)
  (arg3 : Memref sig .tc .smem S4x3 .i32) (harg3 : arg3.IsWhole)
  (arg4 : Memref sig .tc .vmem S1x224x4096 .f32) (harg4 : arg4.IsWhole) (arg5 : Memref sig .tc .vmem S1x96x4096 .f32) (harg5 : arg5.IsWhole)
  (arg6 : Memref sig .tc .vmem S96x4096 .f32) (harg6 : arg6.IsWhole) (arg7 : Memref sig .tc .vmem S1x1x1x96 .f32) (harg7 : arg7.IsWhole)
  (arg8 : Memref sig .tc .vmem S1x1x1x96 .f32) (harg8 : arg8.IsWhole) (arg9 : Memref sig .tc .vmem S1x1x1x96 .f32) (harg9 : arg9.IsWhole)
  (arg10 : Memref sig .tc .vmem S1x224x96 .f32) (harg10 : arg10.IsWhole) (arg11 : Memref sig .tc .vmem S3x224x96 .f32) (harg11 : arg11.IsWhole)
  (x4 : Vec F S1x224x4096 .f32) (x5 : Vec F S1x96x4096 .f32) (x6 : Vec F S96x4096 .f32)
  (x7 x8 x9 : Vec F S1x1x1x96 .f32) (X : Vec F S3x224x96 .f32)

/-- A first block: the slot's row is replaced by the block's product. -/
theorem body_first (h1 : k1_cond1 i = 1#1) (h2 : ¬k1_cond2 i = 1#1) (h3 : ¬k1_cond3 i = 1#1) (E : Set ℕ) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg11 fullShare X
        ∗ (iprop(owns (c : Thread nD τ) arg4 fullShare x4 ∗ owns (c : Thread nD τ) arg5 fullShare x5 ∗ owns (c : Thread nD τ) arg6 fullShare x6
            ∗ (∃ X', ⌜row X' (i 2) = k1_pay2 i x6 x5 x4 ∧ ∀ r, r ≠ i 2 → row X' r = row X r⌝ ∗ owns (c : Thread nD τ) arg11 fullShare X')) -∗ K ⟨⟩))
      ⊢ wp frame (wpE (defs₀ (F := F)) Variants.none c none) E
          (cc1__moe_body i arg3 harg3 arg4 harg4 arg5 harg5 arg6 harg6 arg7 harg7 arg8 harg8 arg9 harg9 arg10 harg10 arg11 harg11) K := by
  simp only [cc1__moe_body_eq_skeleton]; unfold cc1__moe_body_skel
  unfold owns
  iintro ⟨⟨%f4, %hf4, H4⟩, ⟨%f5, %hf5, H5⟩, ⟨%f6, %hf6, H6⟩, ⟨%f11, %hf11, H11⟩, Hk⟩
  obtain rfl := harg4.eq_unread hf4
  obtain rfl := harg5.eq_unread hf5
  obtain rfl := harg6.eq_unread hf6
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap
  · iexists _; isplitr
    swap; · iexact H11
    ipureintro; rfl
  ipureintro
  subst hf11
  refine ⟨(row_stored _ _ _ _ _).trans ?_, fun r hr => row_kept _ _ _ _ _ r hr⟩
  rw [View.readAt_full, View.readAt_full, View.readAt_full, harg4.read_unread, harg5.read_unread, harg6.read_unread]

/-- A middle block: the block's product is added to the slot's row. -/
theorem body_middle (h1 : ¬k1_cond1 i = 1#1) (h2 : k1_cond2 i = 1#1) (h3 : ¬k1_cond3 i = 1#1) (E : Set ℕ) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg11 fullShare X
        ∗ (iprop(owns (c : Thread nD τ) arg4 fullShare x4 ∗ owns (c : Thread nD τ) arg5 fullShare x5 ∗ owns (c : Thread nD τ) arg6 fullShare x6
            ∗ (∃ X', ⌜row X' (i 2) = k1_pay3 i x6 x5 x4 (row X (i 2)) ∧ ∀ r, r ≠ i 2 → row X' r = row X r⌝ ∗ owns (c : Thread nD τ) arg11 fullShare X')) -∗ K ⟨⟩))
      ⊢ wp frame (wpE (defs₀ (F := F)) Variants.none c none) E
          (cc1__moe_body i arg3 harg3 arg4 harg4 arg5 harg5 arg6 harg6 arg7 harg7 arg8 harg8 arg9 harg9 arg10 harg10 arg11 harg11) K := by
  simp only [cc1__moe_body_eq_skeleton]; unfold cc1__moe_body_skel
  unfold owns
  iintro ⟨⟨%f4, %hf4, H4⟩, ⟨%f5, %hf5, H5⟩, ⟨%f6, %hf6, H6⟩, ⟨%f11, %hf11, H11⟩, Hk⟩
  obtain rfl := harg4.eq_unread hf4
  obtain rfl := harg5.eq_unread hf5
  obtain rfl := harg6.eq_unread hf6
  sl_exec (disch := first | sl_exact h1 | sl_exact h2 | sl_exact h3)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap
  · iexists _; isplitr
    swap; · iexact H11
    ipureintro; rfl
  ipureintro
  subst hf11
  refine ⟨(row_stored _ _ _ _ _).trans ?_, fun r hr => row_kept _ _ _ _ _ r hr⟩
  rw [View.readAt_full, View.readAt_full, View.readAt_full, harg4.read_unread, harg5.read_unread, harg6.read_unread]
  exact congrArg _ (read_row _ _ _ _)

/-- The last block of the first slot: the slot's row is completed, normalised, scaled and stored as the image's row. -/
theorem body_last0 (h1 : ¬k1_cond1 i = 1#1) (h2 : k1_cond2 i = 1#1) (h3 : k1_cond3 i = 1#1) (h4 : k1_cond4 i = 1#1) (h5 : ¬k1_cond5 i = 1#1) (E : Set ℕ) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ (∃ d, owns (c : Thread nD τ) arg10 fullShare d) ∗ owns (c : Thread nD τ) arg11 fullShare X
        ∗ (iprop(owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare (k1_pay6 (k1_pay3 i x6 x5 x4 (row X (i 2))) x7 x8 x9)
            ∗ (∃ X', ⌜row X' (i 2) = k1_pay3 i x6 x5 x4 (row X (i 2)) ∧ ∀ r, r ≠ i 2 → row X' r = row X r⌝ ∗ owns (c : Thread nD τ) arg11 fullShare X')) -∗ K ⟨⟩))
      ⊢ wp frame (wpE (defs₀ (F := F)) Variants.none c none) E
          (cc1__moe_body i arg3 harg3 arg4 harg4 arg5 harg5 arg6 harg6 arg7 harg7 arg8 harg8 arg9 harg9 arg10 harg10 arg11 harg11) K := by
  simp only [cc1__moe_body_eq_skeleton]; unfold cc1__moe_body_skel
  simp only [k1_part1_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact h1 | sl_exact h2 | sl_exact h3 | sl_exact h4 | sl_exact h5)
  sl_step
  have e7 : View.readAt (Elt F) arg7.view (Rect.unit ![0, 0, 0, 0] ![1, 1, 1, 96] inb_S1x1x1x96_S1x1x1x96_0_0_0_0).toLoadRect (harg7.unread x7) = x7 :=
    (View.readAt_full _ _ _).trans (harg7.read_unread _)
  have e8 : View.readAt (Elt F) arg8.view (Rect.unit ![0, 0, 0, 0] ![1, 1, 1, 96] inb_S1x1x1x96_S1x1x1x96_0_0_0_0).toLoadRect (harg8.unread x8) = x8 :=
    (View.readAt_full _ _ _).trans (harg8.read_unread _)
  have e9 : View.readAt (Elt F) arg9.view (Rect.unit ![0, 0, 0, 0] ![1, 1, 1, 96] inb_S1x1x1x96_S1x1x1x96_0_0_0_0).toLoadRect (harg9.unread x9) = x9 :=
    (View.readAt_full _ _ _).trans (harg9.read_unread _)
  have e11 : body_last0.sl.v19_1 c i arg4 harg4 arg5 harg5 arg6 harg6 arg11 x4 x5 x6 h2 h3 f11 = k1_pay3 i x6 x5 x4 (row (arg11.view.read (Elt F) f11) (i 2)) := by
    refine (View.readCov_cons_toLoadRect _ _ _ _).trans ?_
    rw [View.readAt_full, View.readAt_full, View.readAt_full, harg4.read_unread, harg5.read_unread, harg6.read_unread]
    exact congrArg _ (read_row _ _ _ _)
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro; refine (View.read_writes_full _ _ _ _ _).trans ?_
    subst hf11
    dsimp only [body_last0.sl.r]
    rw [e11, e7, e8, e9]
  iexists _; isplitr
  swap
  · iexists _; isplitr
    swap; · iexact H11
    ipureintro; rfl
  ipureintro
  subst hf11
  refine ⟨(row_stored _ _ _ _ _).trans ?_, fun r hr => row_kept _ _ _ _ _ r hr⟩
  rw [View.readAt_full, View.readAt_full, View.readAt_full, harg4.read_unread, harg5.read_unread, harg6.read_unread]
  exact congrArg _ (read_row _ _ _ _)

/-- The last block of a later slot: the slot's row is completed, normalised, scaled and added to the image's row. -/
theorem body_lastN (h1 : ¬k1_cond1 i = 1#1) (h2 : k1_cond2 i = 1#1) (h3 : k1_cond3 i = 1#1) (h4 : ¬k1_cond4 i = 1#1) (h5 : k1_cond5 i = 1#1) (x10 : Vec F S1x224x96 .f32) (E : Set ℕ) (K : PUnit → sProp 𝕄) :
    iprop(owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ owns (c : Thread nD τ) arg9 fullShare x9
        ∗ owns (c : Thread nD τ) arg10 fullShare x10 ∗ owns (c : Thread nD τ) arg11 fullShare X
        ∗ (iprop(owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8 ∗ owns (c : Thread nD τ) arg9 fullShare x9
            ∗ owns (c : Thread nD τ) arg10 fullShare (k1_pay4 (k1_pay5 (k1_pay3 i x6 x5 x4 (row X (i 2))) x7 x8 x9) x10)
            ∗ (∃ X', ⌜row X' (i 2) = k1_pay3 i x6 x5 x4 (row X (i 2)) ∧ ∀ r, r ≠ i 2 → row X' r = row X r⌝ ∗ owns (c : Thread nD τ) arg11 fullShare X')) -∗ K ⟨⟩))
      ⊢ wp frame (wpE (defs₀ (F := F)) Variants.none c none) E
          (cc1__moe_body i arg3 harg3 arg4 harg4 arg5 harg5 arg6 harg6 arg7 harg7 arg8 harg8 arg9 harg9 arg10 harg10 arg11 harg11) K := by
  simp only [cc1__moe_body_eq_skeleton]; unfold cc1__moe_body_skel
  simp only [k1_part1_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  sl_exec (disch := first | sl_exact h1 | sl_exact h2 | sl_exact h3 | sl_exact h4 | sl_exact h5)
  sl_step
  have e7 : View.readAt (Elt F) arg7.view (Rect.unit ![0, 0, 0, 0] ![1, 1, 1, 96] inb_S1x1x1x96_S1x1x1x96_0_0_0_0).toLoadRect (harg7.unread x7) = x7 :=
    (View.readAt_full _ _ _).trans (harg7.read_unread _)
  have e8 : View.readAt (Elt F) arg8.view (Rect.unit ![0, 0, 0, 0] ![1, 1, 1, 96] inb_S1x1x1x96_S1x1x1x96_0_0_0_0).toLoadRect (harg8.unread x8) = x8 :=
    (View.readAt_full _ _ _).trans (harg8.read_unread _)
  have e9 : View.readAt (Elt F) arg9.view (Rect.unit ![0, 0, 0, 0] ![1, 1, 1, 96] inb_S1x1x1x96_S1x1x1x96_0_0_0_0).toLoadRect (harg9.unread x9) = x9 :=
    (View.readAt_full _ _ _).trans (harg9.read_unread _)
  have e10 : View.readAt (Elt F) arg10.view (Rect.unit ![0, 0, 0] ![1, 224, 96] inb_S1x224x96_S1x224x96_0_0_0).toLoadRect (harg10.unread x10) = x10 :=
    (View.readAt_full _ _ _).trans (harg10.read_unread _)
  have e11 : body_lastN.sl.v19_1 c i arg4 harg4 arg5 harg5 arg6 harg6 arg11 x4 x5 x6 h2 h3 f11 = k1_pay3 i x6 x5 x4 (row (arg11.view.read (Elt F) f11) (i 2)) := by
    refine (View.readCov_cons_toLoadRect _ _ _ _).trans ?_
    rw [View.readAt_full, View.readAt_full, View.readAt_full, harg4.read_unread, harg5.read_unread, harg6.read_unread]
    exact congrArg _ (read_row _ _ _ _)
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro; refine (View.read_writes_full _ _ _ _ _).trans ?_
    subst hf11
    dsimp only [body_lastN.sl.r]
    rw [e11, e7, e8, e9, e10]
  iexists _; isplitr
  swap
  · iexists _; isplitr
    swap; · iexact H11
    ipureintro; rfl
  ipureintro
  subst hf11
  refine ⟨(row_stored _ _ _ _ _).trans ?_, fun r hr => row_kept _ _ _ _ _ r hr⟩
  rw [View.readAt_full, View.readAt_full, View.readAt_full, harg4.read_unread, harg5.read_unread, harg6.read_unread]
  exact congrArg _ (read_row _ _ _ _)

end Body

end Cert.Proof.MoeR

end
-- ==== Proof.MoeRegion.lean ====
/-
  The expert kernel as a pipelined region: what each of its arrays' staging buffers holds after every grid point, the
  invariant that carries the partial products from block to block, and the proof that the body keeps to both.
-/
module

public import proofs.«01_k».proof.Proof.GateRegion
public import proofs.«01_k».proof.Proof.MoeBody

@[expose] public section

set_option maxRecDepth 16384

noncomputable section

namespace Cert.Proof.MoeR

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.GateR (Val₀)

variable {F : FTy → Type} [FloatOps F] [Named F]

local notation "𝕄" => MT nD τ sig Unit (Elt F) ℕ (UR sig nD τ) ℕ

variable (V : Val₀ F) (a : (pcfg1 (F := F)).Adm) (c : Dev nD)

/-- Window `w`'s block at point `t`, read off its array. -/
def iblk (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- Point number `n`, counted round the grid. -/
abbrev pt (n : ℕ) : Fin grid1.N := ⟨n % 72, Nat.mod_lt _ (by decide)⟩

/-- The staged blocks at point `n`: the patches, the slot's expert weights, the shared weights, the offset and the two
    scalings of the slot's row. -/
def bPatch (n : ℕ) : Vec F S1x224x4096 .f32 := iblk V a c 0 (pt n)
def bExpert (n : ℕ) : Vec F S1x96x4096 .f32 := iblk V a c 1 (pt n)
def bShared (n : ℕ) : Vec F S96x4096 .f32 := iblk V a c 2 (pt n)
def bB (n : ℕ) : Vec F S1x1x1x96 .f32 := iblk V a c 3 (pt n)
def bLnw (n : ℕ) : Vec F S1x1x1x96 .f32 := iblk V a c 4 (pt n)
def bLnb (n : ℕ) : Vec F S1x1x1x96 .f32 := iblk V a c 5 (pt n)

/-- The slot's partial product after point `n`: restarted at the first block, added to afterwards. -/
def acc (n : ℕ) : Vec F S1x224x96 .f32 :=
  if h : kt n = 0 then k1_pay2 (grid1.coords (pt n)) (bShared V a c n) (bExpert V a c n) (bPatch V a c n)
  else k1_pay3 (grid1.coords (pt n)) (bShared V a c n) (bExpert V a c n) (bPatch V a c n) (acc (n - 3))
termination_by n
decreasing_by
  have : n / 3 % 6 ≠ 0 := h
  omega

theorem acc_first (n : ℕ) (h : kt n = 0) :
    acc V a c n = k1_pay2 (grid1.coords (pt n)) (bShared V a c n) (bExpert V a c n) (bPatch V a c n) := by
  rw [acc, dif_pos h]
theorem acc_later (n : ℕ) (h : kt n ≠ 0) :
    acc V a c n = k1_pay3 (grid1.coords (pt n)) (bShared V a c n) (bExpert V a c n) (bPatch V a c n) (acc V a c (n - 3)) := by
  rw [acc, dif_neg h]

/-- The image's result after point `n`: the first slot's row, the later slots' added. -/
def out : ℕ → Vec F S1x224x96 .f32
  | 0 => k1_pay6 (acc V a c 0) (bB V a c 0) (bLnw V a c 0) (bLnb V a c 0)
  | n + 1 => if slot (n + 1) = 0 then k1_pay6 (acc V a c (n + 1)) (bB V a c (n + 1)) (bLnw V a c (n + 1)) (bLnb V a c (n + 1))
      else k1_pay4 (k1_pay5 (acc V a c (n + 1)) (bB V a c (n + 1)) (bLnw V a c (n + 1)) (bLnb V a c (n + 1))) (out n)

theorem out_first (n : ℕ) (h : slot n = 0) : out V a c n = k1_pay6 (acc V a c n) (bB V a c n) (bLnw V a c n) (bLnb V a c n) := by
  cases n with
  | zero => rfl
  | succ n => exact if_pos h
theorem out_later (n : ℕ) (h : slot n ≠ 0) :
    out V a c n = k1_pay4 (k1_pay5 (acc V a c n) (bB V a c n) (bLnw V a c n) (bLnb V a c n)) (out V a c (n - 1)) := by
  cases n with
  | zero => exact absurd (Nat.zero_mod _) h
  | succ n => exact if_neg h

/-- The partial products' buffer. -/
abbrev scM : Memref sig .tc .vmem S3x224x96 .f32 := Memref.whole cc1_scratch0

/-- The scoped buffers the region does not touch. -/
abbrev others : sProp 𝕄 :=
  Pipeline.scopedRestBut (Ix := Unit) (Name := ℕ) (U := UR sig nD τ) (Lvl := ℕ) (Val := Elt F) spec1 c [cc1_scratch0]

/-- The row a point works on. -/
abbrev rowOf (n : ℕ) : Fin 3 := ⟨slot n, Nat.mod_lt _ (by decide)⟩

/-- What the partial products' buffer holds before point `n`: the rows the last three points worked on. -/
def Rows (n : ℕ) (X : Vec F S3x224x96 .f32) : Prop := ∀ m, m < n → n ≤ m + 3 → row X (rowOf m) = acc V a c m

/-- Before point `n`: the table, the partial products and the rest untouched. -/
def inv (n : ℕ) : sProp 𝕄 :=
  iprop(Pipeline.prefHeld pre1 c (fun _ => fullShare) a.1 ∗ (∃ X, ⌜Rows V a c n X⌝ ∗ owns (c : Thread nD τ) scM fullShare X) ∗ others (F := F) c)

/-- The region's proof data. -/
def dat : Dat τ (Elt F) Unit ℕ (UR sig nD τ) ℕ (cfg1 a) c where
  A w := V c (Pipeline.arrRef spec1 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => out V a c t.val
  Φ t := inv V a c t.val
  q _ := fullShare
  owed _ := 0

theorem A_eq (w : Fin (cfg1 a).W) : (dat V a c).A w = V c (Pipeline.arrRef spec1 w) := by dsimp only [dat]
theorem after_0 (t : Fin (cfg1 a).N) : (dat V a c).after 0 t = iblk V a c 0 t := rfl
theorem after_1 (t : Fin (cfg1 a).N) : (dat V a c).after 1 t = iblk V a c 1 t := rfl
theorem after_2 (t : Fin (cfg1 a).N) : (dat V a c).after 2 t = iblk V a c 2 t := rfl
theorem after_3 (t : Fin (cfg1 a).N) : (dat V a c).after 3 t = iblk V a c 3 t := rfl
theorem after_4 (t : Fin (cfg1 a).N) : (dat V a c).after 4 t = iblk V a c 4 t := rfl
theorem after_5 (t : Fin (cfg1 a).N) : (dat V a c).after 5 t = iblk V a c 5 t := rfl
theorem after_6 (t : Fin (cfg1 a).N) : (dat V a c).after 6 t = out V a c t.val := rfl

theorem before_0 (t : Fin (cfg1 a).N) (d) : (dat V a c).before 0 t d = iblk V a c 0 t :=
  ((dat V a c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin (cfg1 a).N) (d) : (dat V a c).before 1 t d = iblk V a c 1 t :=
  ((dat V a c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin (cfg1 a).N) (d) : (dat V a c).before 2 t d = iblk V a c 2 t :=
  ((dat V a c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (t : Fin (cfg1 a).N) (d) : (dat V a c).before 3 t d = iblk V a c 3 t :=
  ((dat V a c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (t : Fin (cfg1 a).N) (d) : (dat V a c).before 4 t d = iblk V a c 4 t :=
  ((dat V a c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (t : Fin (cfg1 a).N) (d) : (dat V a c).before 5 t d = iblk V a c 5 t :=
  ((dat V a c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- The result is written back after an image's last point. -/
theorem flush_6 (t : Fin (cfg1 a).N) : ((cfg1 a).win 6).flush t = true ↔ t.val % 18 = 17 :=
  Pipeline.Window.flush_reads ((cfg1 a).win 6) rfl 0 (show 1 < grid1.bound 0 by decide) (show grid1.fixedAfter reads1_6 0 = true by decide)
    (Pipeline.Window.sep_of_coord cc1_transform_6 0 0 (fun _ => rfl) (by decide)) (P := 18) (m := 17) (show grid1.stride 0 = 18 by decide) rfl t

theorem idle_6' : ∀ t : Fin grid1.N, kt t.val ≠ 5 → idle1 6 (grid1.coords t) = true := by decide +kernel
theorem live_6' : ∀ t : Fin grid1.N, kt t.val = 5 → idle1 6 (grid1.coords t) = false := by decide +kernel

/-- Away from the last block the result's buffer is neither written nor flushed. -/
theorem idle_6 (t : Fin (cfg1 a).N) (h : kt t.val ≠ 5) : (cfg1 a).idle 6 ((cfg1 a).grid.coords t) = true ∧ ((cfg1 a).win 6).flush t = false := by
  refine ⟨idle_6' t h, ?_⟩
  rw [← Bool.not_eq_true, flush_6]
  have h' : t.val / 3 % 6 ≠ 5 := h
  omega
theorem live_6 (t : Fin (cfg1 a).N) (h : kt t.val = 5) : (cfg1 a).idle 6 ((cfg1 a).grid.coords t) = false := live_6' t h

/-- A later slot's last point finds the result as the point before left it. -/
theorem before_6 (t : Fin (cfg1 a).N) (h : kt t.val = 5) (hs : slot t.val ≠ 0) (d) : (dat V a c).before 6 t d = out V a c (t.val - 1) := by
  have h' : t.val / 3 % 6 = 5 := h
  have hs' : t.val % 3 ≠ 0 := hs
  have hz : t.val ≠ 0 := fun e => hs' (by rw [e])
  rw [(dat V a c).before_of_pos 6 t hz (((cfg1 a).win 6).fetch_out rfl t)]
  have hf : ((cfg1 a).win 6).flush ⟨t.val - 1, Nat.lt_of_le_of_lt (Nat.sub_le _ _) t.isLt⟩ = false := by
    rw [← Bool.not_eq_true, flush_6]; dsimp only; omega
  rw [hf, if_neg Bool.false_ne_true]
  unfold Dat.left
  rw [live_6 a ⟨t.val - 1, Nat.lt_of_le_of_lt (Nat.sub_le _ _) t.isLt⟩ (by show (t.val - 1) / 3 % 6 = 5; omega)]
  dsimp only
  unfold Dat.kept
  rw [after_6]
  rfl

/-- What the body must leave in a window it is not idle on. -/
theorem leaves_live (w : Fin (cfg1 a).W) (t : Fin (cfg1 a).N) (h : (cfg1 a).idle w ((cfg1 a).grid.coords t) = false) :
    (dat V a c).leavesExact w t = owns (c : Thread nD τ) (((cfg1 a).win w).stage ((cfg1 a).slots t w)) fullShare ((dat V a c).after w t) := by
  unfold Dat.leavesExact; rw [h]

theorem pt_eq (t : Fin (cfg1 a).N) : pt t.val = t := Fin.ext (Nat.mod_eq_of_lt (lt_of_lt_of_eq t.isLt N_1))

/-- The staging buffers at point `t`, and the body there. -/
abbrev st (w : Fin (cfg1 a).W) (t : Fin (cfg1 a).N) := ((cfg1 a).win w).stage ((cfg1 a).slots t w)
abbrev bodyAt (t : Fin (cfg1 a).N) : Prog (TpuEff nD τ sig (Elt F) Λ₀ .tc) PUnit :=
  defs₀ (F := F) .tc (cfg1 a).body ((cfg1 a).bodyArgs t ((cfg1 a).slots t))

/-- The inputs are left as they were staged, the result as the point stores it. -/
theorem leaves_0 (t : Fin (cfg1 a).N) : (dat V a c).leavesExact 0 t = owns (c : Thread nD τ) (st a 0 t) fullShare (iblk V a c 0 t) :=
  (leaves_live V a c 0 t rfl).trans (congrArg _ (after_0 V a c t))
theorem leaves_1 (t : Fin (cfg1 a).N) : (dat V a c).leavesExact 1 t = owns (c : Thread nD τ) (st a 1 t) fullShare (iblk V a c 1 t) :=
  (leaves_live V a c 1 t rfl).trans (congrArg _ (after_1 V a c t))
theorem leaves_2 (t : Fin (cfg1 a).N) : (dat V a c).leavesExact 2 t = owns (c : Thread nD τ) (st a 2 t) fullShare (iblk V a c 2 t) :=
  (leaves_live V a c 2 t rfl).trans (congrArg _ (after_2 V a c t))
theorem leaves_3 (t : Fin (cfg1 a).N) : (dat V a c).leavesExact 3 t = owns (c : Thread nD τ) (st a 3 t) fullShare (iblk V a c 3 t) :=
  (leaves_live V a c 3 t rfl).trans (congrArg _ (after_3 V a c t))
theorem leaves_4 (t : Fin (cfg1 a).N) : (dat V a c).leavesExact 4 t = owns (c : Thread nD τ) (st a 4 t) fullShare (iblk V a c 4 t) :=
  (leaves_live V a c 4 t rfl).trans (congrArg _ (after_4 V a c t))
theorem leaves_5 (t : Fin (cfg1 a).N) : (dat V a c).leavesExact 5 t = owns (c : Thread nD τ) (st a 5 t) fullShare (iblk V a c 5 t) :=
  (leaves_live V a c 5 t rfl).trans (congrArg _ (after_5 V a c t))
theorem leaves_6 (t : Fin (cfg1 a).N) (h : kt t.val = 5) : (dat V a c).leavesExact 6 t = owns (c : Thread nD τ) (st a 6 t) fullShare (out V a c t.val) :=
  (leaves_live V a c 6 t (live_6 a t h)).trans (congrArg _ (after_6 V a c t))

/-- The rows after a point that stored its slot's row. -/
theorem rows_step (t : Fin (cfg1 a).N) (X X' : Vec F S3x224x96 .f32) (hX : Rows V a c t.val X)
    (h1 : row X' (grid1.coords t 2) = acc V a c t.val) (h2 : ∀ r, r ≠ grid1.coords t 2 → row X' r = row X r) : Rows V a c (t.val + 1) X' := by
  have hc : grid1.coords t 2 = rowOf t.val := Fin.ext (coords_2 t)
  intro m hm hm'
  by_cases he : m = t.val
  · subst he; rw [← hc]; exact h1
  · rw [h2 (rowOf m) (fun e => ?_)]
    · exact hX m (by omega) (by omega)
    · have := congrArg Fin.val (e.trans hc)
      have : m % 3 = t.val % 3 := this
      omega

/-- What a first block stores is the partial product after it. -/
theorem stored_first (t : Fin (cfg1 a).N) (h : kt t.val = 0) :
    acc V a c t.val = k1_pay2 (grid1.coords t) (iblk V a c 2 t) (iblk V a c 1 t) (iblk V a c 0 t) := by
  rw [acc_first V a c _ h]; unfold bShared bExpert bPatch; rw [pt_eq a t]
/-- What a later block stores is the partial product after it. -/
theorem stored_later (t : Fin (cfg1 a).N) (h : kt t.val ≠ 0) (X : Vec F S3x224x96 .f32) (hX : Rows V a c t.val X) :
    acc V a c t.val = k1_pay3 (grid1.coords t) (iblk V a c 2 t) (iblk V a c 1 t) (iblk V a c 0 t) (row X (grid1.coords t 2)) := by
  have h' : t.val / 3 % 6 ≠ 0 := h
  rw [acc_later V a c _ h]; unfold bShared bExpert bPatch; rw [pt_eq a t]
  refine congrArg _ ?_
  rw [← hX (t.val - 3) (by omega) (by omega)]
  refine congrArg (row X) (Fin.ext ?_)
  rw [coords_2]
  show (t.val - 3) % 3 = t.val % 3
  omega
/-- What a first slot's last point stores is the result after it. -/
theorem stored_out_first (t : Fin (cfg1 a).N) (h : kt t.val ≠ 0) (hs : slot t.val = 0) (X : Vec F S3x224x96 .f32) (hX : Rows V a c t.val X) :
    out V a c t.val = k1_pay6 (k1_pay3 (grid1.coords t) (iblk V a c 2 t) (iblk V a c 1 t) (iblk V a c 0 t) (row X (grid1.coords t 2)))
      (iblk V a c 3 t) (iblk V a c 4 t) (iblk V a c 5 t) := by
  rw [out_first V a c _ hs, stored_later V a c t h X hX]; unfold bB bLnw bLnb; rw [pt_eq a t]
/-- What a later slot's last point stores is the result after it. -/
theorem stored_out_later (t : Fin (cfg1 a).N) (h : kt t.val ≠ 0) (hs : slot t.val ≠ 0) (X : Vec F S3x224x96 .f32) (hX : Rows V a c t.val X) :
    out V a c t.val = k1_pay4 (k1_pay5 (k1_pay3 (grid1.coords t) (iblk V a c 2 t) (iblk V a c 1 t) (iblk V a c 0 t) (row X (grid1.coords t 2)))
      (iblk V a c 3 t) (iblk V a c 4 t) (iblk V a c 5 t)) (out V a c (t.val - 1)) := by
  rw [out_later V a c _ hs, stored_later V a c t h X hX]; unfold bB bLnw bLnb; rw [pt_eq a t]

/-- The invariant at a point and after it. -/
theorem inv_here (t : Fin (cfg1 a).N) : (dat V a c).Φ t.castSucc = inv V a c t.val := by
  dsimp only [dat]; exact congrArg (inv V a c) (Fin.val_castSucc t)
theorem inv_next (t : Fin (cfg1 a).N) : (dat V a c).Φ t.succ = inv V a c (t.val + 1) := by
  dsimp only [dat]; exact congrArg (inv V a c) (Fin.val_succ t)

/-- The body owes nothing. -/
theorem owes_same (t : Fin (cfg1 a).N) : (dat V a c).owesAt () t.succ = (dat V a c).owesAt () t.castSucc := by
  unfold Dat.owesAt Dat.bound
  dsimp only [dat]

/-- The body at any point, from what the pipeline hands it to what it must leave. -/
theorem at_point (t : Fin (cfg1 a).N) :
    iprop((dat V a c).Φ t.castSucc ∗ (dat V a c).owesAt () t.castSucc
      ∗ (∃ d, owns (c : Thread nD τ) (st a 0 t) fullShare ((dat V a c).before 0 t d))
      ∗ (∃ d, owns (c : Thread nD τ) (st a 1 t) fullShare ((dat V a c).before 1 t d))
      ∗ (∃ d, owns (c : Thread nD τ) (st a 2 t) fullShare ((dat V a c).before 2 t d))
      ∗ (∃ d, owns (c : Thread nD τ) (st a 3 t) fullShare ((dat V a c).before 3 t d))
      ∗ (∃ d, owns (c : Thread nD τ) (st a 4 t) fullShare ((dat V a c).before 4 t d))
      ∗ (∃ d, owns (c : Thread nD τ) (st a 5 t) fullShare ((dat V a c).before 5 t d))
      ∗ (∃ d, owns (c : Thread nD τ) (st a 6 t) fullShare ((dat V a c).before 6 t d)))
    ⊢ wp frame (wpE (defs₀ (F := F)) Variants.none c none) Set.univ (bodyAt a t) (fun _ =>
      iprop((dat V a c).Φ t.succ ∗ (dat V a c).owesAt () t.succ
        ∗ (dat V a c).leavesExact 0 t ∗ (dat V a c).leavesExact 1 t ∗ (dat V a c).leavesExact 2 t
        ∗ (dat V a c).leavesExact 3 t ∗ (dat V a c).leavesExact 4 t ∗ (dat V a c).leavesExact 5 t ∗ (dat V a c).leavesExact 6 t)) := by
  simp only [before_0, before_1, before_2, before_3, before_4, before_5]
  rw [owes_same V a c t,
    inv_here V a c t, inv_next V a c t,
    leaves_0 V a c t, leaves_1 V a c t, leaves_2 V a c t, leaves_3 V a c t, leaves_4 V a c t, leaves_5 V a c t]
  unfold inv
  by_cases h0 : kt t.val = 0
  · have h5 : kt t.val ≠ 5 := by rw [h0]; decide
    rw [Dat.leavesExact_idle (dat V a c) 6 t (idle_6 a t h5).1 (idle_6 a t h5).2]
    iintro ⟨⟨HT, ⟨%X, %hX, HS⟩, Hr⟩, Ho, ⟨%d0, H0⟩, ⟨%d1, H1⟩, ⟨%d2, H2⟩, ⟨%d3, H3⟩, ⟨%d4, H4⟩, ⟨%d5, H5⟩, H6⟩
    iapply (body_first c (grid1.coords t) _ _ _ _ _ _ _ _ _ _ _ _ _ _ _ _ _ _ (iblk V a c 0 t) (iblk V a c 1 t) (iblk V a c 2 t) X
      ((cond1_iff t).mpr h0) (fun h => (cond2_iff t).mp h h0) (fun h => h5 ((cond3_iff t).mp h)) Set.univ _)
    isplitl [H0]; · iexact H0
    isplitl [H1]; · iexact H1
    isplitl [H2]; · iexact H2
    isplitl [HS]; · iexact HS
    iintro ⟨H0, H1, H2, HS⟩
    isplitl [HT HS Hr]
    · isplitl [HT]; · iexact HT
      isplitl [HS]
      · icases HS with ⟨%X', %he, HS⟩
        iexists X'; isplitr
        swap; · iexact HS
        ipureintro; exact rows_step V a c t X X' hX (he.1.trans (stored_first V a c t h0).symm) he.2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · by_cases h5 : kt t.val = 5
    · rw [leaves_6 V a c t h5]
      by_cases hs : slot t.val = 0
      · iintro ⟨⟨HT, ⟨%X, %hX, HS⟩, Hr⟩, Ho, ⟨%d0, H0⟩, ⟨%d1, H1⟩, ⟨%d2, H2⟩, ⟨%d3, H3⟩, ⟨%d4, H4⟩, ⟨%d5, H5⟩, ⟨%d6, H6⟩⟩
        rw [stored_out_first V a c t h0 hs X hX]
        iapply (body_last0 c (grid1.coords t) _ _ _ _ _ _ _ _ _ _ _ _ _ _ _ _ _ _ (iblk V a c 0 t) (iblk V a c 1 t) (iblk V a c 2 t) (iblk V a c 3 t) (iblk V a c 4 t) (iblk V a c 5 t) X
          (fun h => h0 ((cond1_iff t).mp h)) ((cond2_iff t).mpr h0) ((cond3_iff t).mpr h5) ((cond4_iff t).mpr hs) (fun h => (cond5_iff t).mp h hs) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, H6, HS⟩
        isplitl [HT HS Hr]
        · isplitl [HT]; · iexact HT
          isplitl [HS]
          · icases HS with ⟨%X', %he, HS⟩
            iexists X'; isplitr
            swap; · iexact HS
            ipureintro; exact rows_step V a c t X X' hX (he.1.trans (stored_later V a c t h0 X hX).symm) he.2
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
      · simp only [before_6 V a c t h5 hs]
        iintro ⟨⟨HT, ⟨%X, %hX, HS⟩, Hr⟩, Ho, ⟨%d0, H0⟩, ⟨%d1, H1⟩, ⟨%d2, H2⟩, ⟨%d3, H3⟩, ⟨%d4, H4⟩, ⟨%d5, H5⟩, ⟨%d6, H6⟩⟩
        rw [stored_out_later V a c t h0 hs X hX]
        iapply (body_lastN c (grid1.coords t) _ _ _ _ _ _ _ _ _ _ _ _ _ _ _ _ _ _ (iblk V a c 0 t) (iblk V a c 1 t) (iblk V a c 2 t) (iblk V a c 3 t) (iblk V a c 4 t) (iblk V a c 5 t) X
          (fun h => h0 ((cond1_iff t).mp h)) ((cond2_iff t).mpr h0) ((cond3_iff t).mpr h5) (fun h => hs ((cond4_iff t).mp h)) ((cond5_iff t).mpr hs) (out V a c (t.val - 1)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, HS⟩
        isplitl [HT HS Hr]
        · isplitl [HT]; · iexact HT
          isplitl [HS]
          · icases HS with ⟨%X', %he, HS⟩
            iexists X'; isplitr
            swap; · iexact HS
            ipureintro; exact rows_step V a c t X X' hX (he.1.trans (stored_later V a c t h0 X hX).symm) he.2
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [Dat.leavesExact_idle (dat V a c) 6 t (idle_6 a t h5).1 (idle_6 a t h5).2]
      iintro ⟨⟨HT, ⟨%X, %hX, HS⟩, Hr⟩, Ho, ⟨%d0, H0⟩, ⟨%d1, H1⟩, ⟨%d2, H2⟩, ⟨%d3, H3⟩, ⟨%d4, H4⟩, ⟨%d5, H5⟩, H6⟩
      iapply (body_middle c (grid1.coords t) _ _ _ _ _ _ _ _ _ _ _ _ _ _ _ _ _ _ (iblk V a c 0 t) (iblk V a c 1 t) (iblk V a c 2 t) X
        (fun h => h0 ((cond1_iff t).mp h)) ((cond2_iff t).mpr h0) (fun h => h5 ((cond3_iff t).mp h)) Set.univ _)
      isplitl [H0]; · iexact H0
      isplitl [H1]; · iexact H1
      isplitl [H2]; · iexact H2
      isplitl [HS]; · iexact HS
      iintro ⟨H0, H1, H2, HS⟩
      isplitl [HT HS Hr]
      · isplitl [HT]; · iexact HT
        isplitl [HS]
        · icases HS with ⟨%X', %he, HS⟩
          iexists X'; isplitr
          swap; · iexact HS
          ipureintro; exact rows_step V a c t X X' hX (he.1.trans (stored_later V a c t h0 X hX).symm) he.2
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body keeps to the proof data at every point. -/
theorem body_obligation : BodyObligation (dat V a c) (defs₀ (F := F)) Variants.none () Set.univ := fun t => by
  rw [bigSep_W1, bigSep_W1]
  exact triple_restated (at_point V a c t) rfl .rfl fun _ => .rfl

/-- The scoped buffers the pipeline does not stage: the partial products' buffer, and the rest. -/
theorem rest_split : Pipeline.scopedRest (Ix := Unit) (Name := ℕ) (U := UR sig nD τ) (Lvl := ℕ) (Val := Elt F) spec1 c
    = iprop((∃ f : Buf (Elt F) ((c : Thread nD τ).loc cc1_scratch0), ((c : Thread nD τ).loc cc1_scratch0) ↦{fullShare} f) ∗ others (F := F) c) :=
  Pipeline.scopedRest_split_of_list spec1 c [cc1_scratch0] (by decide) (by decide)

/-- The scoped buffers and the table at the region's start are the invariant before the first point. -/
theorem inv_in : iprop(Pipeline.scopedRest (Ix := Unit) (Name := ℕ) (U := UR sig nD τ) (Lvl := ℕ) (Val := Elt F) spec1 c
      ∗ Pipeline.prefHeld pre1 c (fun _ => fullShare) a.1) ⊢ inv V a c 0 := by
  rw [rest_split]
  unfold inv
  iintro ⟨⟨⟨%f, Hs⟩, Hr⟩, HT⟩
  isplitl [HT]; · iexact HT
  isplitl [Hs]
  · iexists ((scM.view).read (Elt F) f); isplitr
    · ipureintro; exact fun m hm => absurd hm (Nat.not_lt_zero m)
    rw [owns_whole_eq]; iexists f; isplitr
    · ipureintro; rfl
    iexact Hs
  iexact Hr

/-- The invariant after any point gives the scoped buffers and the table back. -/
theorem inv_out (n : ℕ) : inv V a c n ⊢ iprop(Pipeline.scopedRest (Ix := Unit) (Name := ℕ) (U := UR sig nD τ) (Lvl := ℕ) (Val := Elt F) spec1 c
      ∗ Pipeline.prefHeld pre1 c (fun _ => fullShare) a.1) := by
  rw [rest_split]
  unfold inv
  simp only [owns_whole_eq]
  iintro ⟨HT, ⟨%X, -, %f, -, Hs⟩, Hr⟩
  isplitl [Hs Hr]
  · isplitl [Hs]
    · iexists f; iexact Hs
    iexact Hr
  iexact HT

end Cert.Proof.MoeR

end
-- ==== Proof.Whole.lean ====
/-
  The whole program as four items, the gating call, the host operations that prepare the tables, the expert call and the
  host operations that lay out the result: what every array holds after each of them, and the run from launch to end.
  The expert call's table must keep the blocks it names inside the weights (`tableOk`): a hypothesis here.
-/
module

public import proofs.«01_k».proof.Proof.MoeRegion
public import proofs.«01_k».proof.Proof.Gen.KernelIdeal.Regions
public import Idealize.ShloMosaic.Lib.Pipeline.RegionArraysTS
public import Idealize.ShloMosaic.Lib.Pipeline.RegionArraysS
public import Idealize.ShloMosaic.Lib.Pipeline.Regions

@[expose] public section

set_option maxRecDepth 16384

noncomputable section

namespace Cert.Proof.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg afterRegion)
open Cert.Proof.GateR (Val₀)

variable {F : FTy → Type} [FloatOps F] [Named F]

local notation "𝕄" => MT nD τ sig Unit (Elt F) ℕ (UR sig nD τ) ℕ

variable (m : (ℓ : Loc nD τ sig) → Buf (Elt F) ℓ)

/-- What the arrays hold as the gating call finds them. -/
abbrev Va : Val₀ F := fun c b => V0 m c (Proc.devRef .tc b)

/-- After the gating call. -/
def W1 (c : Dev nD) : Valuation τ sig (Elt F) := afterRegion (GateR.dat (Va m) c) (V0 m c)
/-- After the tables are prepared. -/
def W2 (c : Dev nD) : Valuation τ sig (Elt F) := StableHlo.after hostOps1 (W1 m c)

/-- What the arrays hold as the expert call finds them. -/
abbrev Vb : Val₀ F := fun c b => W2 m c (Proc.devRef .tc b)

/-- The expert call's table. -/
def tbl : pre1.Contents (Elt F) := fun k => W2 m 0 (Proc.devRef .tc (pre1.ref k))

/-- The expert call's table keeps the blocks it names inside the weights. -/
def tableOk : Prop := ok1 (tbl m)

variable (hok : tableOk m)

/-- The table, with that fact. -/
def adm1 : (pcfg1 (F := F)).Adm := ⟨tbl m, hok⟩

/-- After the expert call. -/
def W3 (c : Dev nD) : Valuation τ sig (Elt F) := afterRegion (MoeR.dat (Vb m) (adm1 m hok) c) (W2 m c)
/-- At the end. -/
def W4 (c : Dev nD) : Valuation τ sig (Elt F) := StableHlo.after hostOps2 (W3 m hok c)

/-- The tables of both calls. -/
def adm : (p : Fin 2) → (pcfgs (F := F) p).Adm
  | ⟨0, _⟩ => cfg0.toPCfg_adm
  | ⟨1, _⟩ => adm1 m hok
  | ⟨_ + 2, h⟩ => absurd h (Nat.not_lt.2 (Nat.le_add_left _ _))

/-- The proof data of both calls. -/
def pdats : (p : Fin 2) → (c : Dev nD) → Dat τ (Elt F) Unit ℕ (UR sig nD τ) ℕ (Pipeline.pin (pcfgs (F := F)) (adm m hok) p) c
  | ⟨0, _⟩ => GateR.dat (Va m)
  | ⟨1, _⟩ => MoeR.dat (Vb m) (adm1 m hok)
  | ⟨_ + 2, h⟩ => absurd h (Nat.not_lt.2 (Nat.le_add_left _ _))

/-- Every TensorCore semaphore is waited on at one level. -/
def L (g : GSem nD τ sig) : Finset Unit := if g.1.2 = .tc then {()} else ∅
abbrev lv : GSem nD τ sig → Unit → ℕ := fun _ _ => 0

theorem cut (p : Fin 2) : Pipeline.LevelCut (pcfgs (F := F)) (adm m hok) () L lv p (fun _ => (0 : CellTallies nD τ sig Unit)) (fun _ => 0) where
  hι c w s := by unfold L; rw [if_pos rfl]; exact Finset.mem_singleton_self _
  hιb _ _ _ := le_rfl
  hD _ _ _ h := absurd h (lt_irrefl _)

abbrev none' : Dev nD → sProp 𝕄 := fun _ => BI.emp

set_option backward.isDefEq.respectTransparency.types false in
/-- The gating call as an item of the run. -/
def reg0 : RegionSeg (pcfgs (F := F)) (adm m hok) (pdats m hok) () defs₀ Variants.none L lv 0 :=
  RegionSeg.ofHeldIn (pcfgs (F := F)) (adm m hok) (pdats m hok) () defs₀ Variants.none L lv 0 (fun _ => 0) (Pipeline.ucRefs τ sig)
    none' none' launch0 rfl (fun c => (GateR.body_obligation (Va m) c).loose) (fun _ _ => rfl) (fun _ => rfl)
    (fun c => (GateR.dat (Va m) c).share_full fun _ => rfl)
    (fun c => by
      refine BIBase.Entails.trans ?_ (GateR.inv_in (Va m) c)
      iintro ⟨H, -⟩; iexact H)
    (fun c => by
      refine (GateR.inv_out (Va m) c _).trans ?_
      iintro H
      isplitl [H]; · iexact H
      iempintro)
    (fun _ => 0) (cut m hok 0) none' (V0 m) (fun _ _ => rfl)

set_option backward.isDefEq.respectTransparency.types false in
/-- The expert call as an item of the run. -/
def reg1 : RegionSeg (pcfgs (F := F)) (adm m hok) (pdats m hok) () defs₀ Variants.none L lv 1 :=
  RegionSeg.ofHeldInT (pcfgs (F := F)) (adm m hok) (pdats m hok) () defs₀ Variants.none L lv 1 (fun _ => 0) (Pipeline.ucRefs τ sig)
    none' none' launch1 (fun c => (MoeR.body_obligation (Vb m) (adm1 m hok) c).loose) (fun _ _ => rfl) (fun _ => rfl)
    (fun c => (MoeR.dat (Vb m) (adm1 m hok) c).share_full fun _ => rfl)
    (fun c => by
      refine BIBase.Entails.trans ?_ (MoeR.inv_in (Vb m) (adm1 m hok) c)
      iintro ⟨⟨H, -⟩, HT⟩
      isplitl [H]; · iexact H
      iexact HT)
    (fun c => by
      refine (MoeR.inv_out (Vb m) (adm1 m hok) c _).trans ?_
      iintro ⟨H, HT⟩
      isplitl [H]
      · isplitl [H]; · iexact H
        iempintro
      iexact HT)
    (fun _ => 0) (cut m hok 1) none' (W2 m) (fun _ _ => rfl) (fun c k => by rw [Subsingleton.elim c 0]; rfl)

/-- What rides beside the arrays: the core owes nothing. -/
abbrev rider : Dev nD → sProp 𝕄 := fun c => iprop((∃ Wd, owes (c : Thread nD τ) (0 : CellTallies nD τ sig Unit) Wd) ∗ BI.emp ∗ BI.emp)

/-- The host operations between the calls, and after them. -/
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) rider
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m hok) rider

set_option backward.isDefEq.respectTransparency.types false in
theorem pre0 (c : Dev nD) : iprop(StableHlo.held (c : Thread nD τ) (Pipeline.ucRefs τ sig) (V0 m c) ∗ rider c) ⊢ (reg0 m hok).pre c := by
  exact RegionSeg.ofHeldIn_pre (pcs := pcfgs (F := F)) (a := adm m hok) (pdats := pdats m hok) (p := 0) (D := fun _ => 0) (S := Pipeline.ucRefs τ sig) (X := none') (Y := none') (R := none') (W := V0 m)
    (Pipeline.arrRefs_sub_ucRefs _ winFacts0.arr_unscoped) c
set_option backward.isDefEq.respectTransparency.types false in
theorem post0' (c : Dev nD) : (reg0 m hok).post c ⊢ iprop(StableHlo.held (c : Thread nD τ) (Pipeline.ucRefs τ sig) (afterRegion (pdats m hok 0 c) (V0 m c)) ∗ rider c) := by
  exact RegionSeg.ofHeldIn_post (pcs := pcfgs (F := F)) (a := adm m hok) (pdats := pdats m hok) (p := 0) (D := fun _ => 0) (S := Pipeline.ucRefs τ sig) (X := none') (Y := none') (R := none') (W := V0 m) (Pipeline.arrRefs_sub_ucRefs _ winFacts0.arr_unscoped) c
theorem e0 (c : Dev nD) : W1 m c = afterRegion (pdats m hok 0 c) (V0 m c) := rfl
theorem post0 (c : Dev nD) : (reg0 m hok).post c ⊢ iprop(StableHlo.held (c : Thread nD τ) (Pipeline.ucRefs τ sig) (W1 m c) ∗ rider c) :=
  (post0' m hok c).trans (BIBase.Entails.of_eq (by rw [e0 m hok]))
set_option backward.isDefEq.respectTransparency.types false in
theorem pre1' (c : Dev nD) : iprop(StableHlo.held (c : Thread nD τ) (Pipeline.ucRefs τ sig) (W2 m c) ∗ rider c) ⊢ (reg1 m hok).pre c := by
  exact RegionSeg.ofHeldInT_pre (pcs := pcfgs (F := F)) (a := adm m hok) (pdats := pdats m hok) (p := 1) (D := fun _ => 0) (S := Pipeline.ucRefs τ sig) (X := none') (Y := none') (R := none') (W := W2 m)
    (Pipeline.arrRefs_sub_ucRefs _ winFacts1.arr_unscoped) (Pipeline.tblRefs_sub_ucRefs _ preFacts1.unscoped) c
set_option backward.isDefEq.respectTransparency.types false in
theorem post1' (c : Dev nD) : (reg1 m hok).post c ⊢ iprop(StableHlo.held (c : Thread nD τ) (Pipeline.ucRefs τ sig) (afterRegion (pdats m hok 1 c) (W2 m c)) ∗ rider c) := by
  exact RegionSeg.ofHeldInT_post (pcs := pcfgs (F := F)) (a := adm m hok) (pdats := pdats m hok) (p := 1) (D := fun _ => 0) (S := Pipeline.ucRefs τ sig) (X := none') (Y := none') (R := none') (W := W2 m)
    (Pipeline.arrRefs_sub_ucRefs _ winFacts1.arr_unscoped) (Pipeline.tblRefs_sub_ucRefs _ preFacts1.unscoped) c
theorem e1 (c : Dev nD) : W3 m hok c = afterRegion (pdats m hok 1 c) (W2 m c) := rfl
theorem post1 (c : Dev nD) : (reg1 m hok).post c ⊢ iprop(StableHlo.held (c : Thread nD τ) (Pipeline.ucRefs τ sig) (W3 m hok c) ∗ rider c) :=
  (post1' m hok c).trans (BIBase.Entails.of_eq (by rw [e1 m hok]))

/-- The program as its items. -/
abbrev items (_ : Dev nD) : List (Seg (pcfgs (F := F)) (adm m hok) (pdats m hok) () defs₀ Variants.none L lv) :=
  [.region (reg0 m hok), .host (host1 m), .region (reg1 m hok), .host (host2 m hok)]

set_option backward.isDefEq.respectTransparency.types false in
/-- Every execution ends with every unscoped array as the items leave it, and every semaphore counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = W4 m hok c b) ∧ r.2.sem = fun _ => 0) := by
  refine Pipeline.θ_run_regions_kit_dev_sems (pcfgs (F := F)) (adm m hok) (pdats m hok) () (cellOf_inj (adm m hok)) emb₁ defs₀ Variants.none L lv m ρ main
    (items m hok)
    (fun c Q => by
      rewrite [main_chain c, Seg.run_eq_chain,
        show (items m hok c).map Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0)
    (hL := fun g hg => by unfold L; rw [if_neg hg])
    (G := fun _ => iprop(emp))
    (u₀ := initOf (Pipeline.cells (Pipeline.pin (pcfgs (F := F)) (adm m hok)) (cellOf_inj (adm m hok))) (Pipeline.launchToks (Pipeline.pin (pcfgs (F := F)) (adm m hok)) (cellOf_inj (adm m hok))))
    (hu₀ := by
      iintro Hu; imodintro
      isplitl [Hu]
      · iapply (show (ownU _ : sProp 𝕄) ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rider c))
    (Tₙ := fun c => StableHlo.held (c : Thread nD τ) (Pipeline.ucRefs τ sig) (W4 m hok c))
    (hch := fun c => ⟨pre0 m hok c, post0 m hok c, pre1' m hok c, post1 m hok c, sep_mono .rfl (by iintro ⟨H, -, -⟩; iexact H)⟩)
    (hinit := ?_) (QY := fun c s => ∀ b ∈ Pipeline.ucRefs τ sig, s.mem (c, b) = W4 m hok c b)
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (W4 m hok c) s') $$ [Hh HSI]
    · isplitl [Hh] <;> iassumption
    icases Hr with ⟨%h, HSI⟩
    imodintro
    isplitr
    · ipureintro; exact h
    · iexact HSI

end Cert.Proof.Whole

end
-- ==== Proof.Tables.lean ====
module

public import proofs.«01_k».proof.Proof.Whole
public import Idealize.ShloMosaic.Lib.StableHlo.RunRead
public import Idealize.ShloMosaic.Lib.Pointwise

/-! The tables the host operations between the two calls prepare, at an index. -/

@[expose] public section

set_option maxRecDepth 100000

noncomputable section

namespace Cert.Proof.Tables

open Cert.KernelIdeal Cert.KernelIdeal.Gen
open Idealize.ShloMosaic Idealize.ShloMosaic.TcCoe Idealize.ShloMosaic.StableHlo

variable {F : FTy → Type} [FloatOps F] [Named F]
variable (V : Valuation τ sig (Elt F))

theorem read_v45 (b : Fin 4) (s : Fin 3) :
    (after hostOps1 V (Proc.devRef .tc main_v45) : Vec F S4x3 .i32) (ix2 b s) =
      (V (Proc.devRef .tc main_v0_2) : Vec F S4x1x8 .i32) (ix3 b 0 (if s = 0 then 0 else 1)) := by
  after_reads_simp
  pointwise
  fin_cases s <;> rfl

theorem read_v5 (e : Fin 8) (o : Fin 96) (k : Fin 24576) :
    (after hostOps1 V (Proc.devRef .tc main_v5) : Vec F S8x96x24576 .f32) (ix3 e o k) =
      (V (Proc.devRef .tc main_arg2) : Vec F S8x96x96x16x16 .f32) (ix5 e o ⟨k.val / 256, by omega⟩ ⟨k.val / 16 % 16, by omega⟩ ⟨k.val % 16, by omega⟩) := by
  after_reads_simp
  pointwise

theorem read_v6 (o : Fin 96) (k : Fin 24576) :
    (after hostOps1 V (Proc.devRef .tc main_v6) : Vec F S96x24576 .f32) (ix2 o k) =
      (V (Proc.devRef .tc main_arg6) : Vec F S96x96x16x16 .f32) (ix4 o ⟨k.val / 256, by omega⟩ ⟨k.val / 16 % 16, by omega⟩ ⟨k.val % 16, by omega⟩) := by
  after_reads_simp
  pointwise

/-- The rows gathered from a table of nine: row `idx[b, s]`, clamped. -/
theorem gather_rows {α : Type} (x : S9x96.Idx → α) (idx : IVec S4x3x1 32) (b : Fin 4) (s : Fin 3) (o : Fin 96) :
    Host.gather gather_S9x96_S4x3x1_S4x3x96_2_0_n_n_0_2_196 x idx (ix3 b s o) =
      x (ix2 ⟨min (idx (ix3 b s 0)).toInt.toNat 8, by omega⟩ o) := by
  unfold Host.gather
  congr 1
  funext a
  refine Fin.ext ?_
  show gather_S9x96_S4x3x1_S4x3x96_2_0_n_n_0_2_196.start (ix3 b s o) idx a
      + gather_S9x96_S4x3x1_S4x3x96_2_0_n_n_0_2_196.batchCoord (ix3 b s o) a
      + gather_S9x96_S4x3x1_S4x3x96_2_0_n_n_0_2_196.offCoord (ix3 b s o) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S9x96_S4x3x1_S4x3x96_2_0_n_n_0_2_196.startIndexMap from List.mem_singleton.mpr rfl)]
    have hsi : gather_S9x96_S4x3x1_S4x3x96_2_0_n_n_0_2_196.siIdx (ix3 b s o)
        ⟨List.idxOf (0 : Fin 2) gather_S9x96_S4x3x1_S4x3x96_2_0_n_n_0_2_196.startIndexMap,
          List.idxOf_lt_length_iff.2 (List.mem_singleton.mpr rfl)⟩ = ix3 b s 0 := by
      funext c
      refine Fin.ext ?_
      match c with
      | ⟨0, _⟩ => rfl
      | ⟨1, _⟩ => rfl
      | ⟨2, _⟩ => rfl
    rw [hsi]
    rfl
  · have h0 : gather_S9x96_S4x3x1_S4x3x96_2_0_n_n_0_2_196.start (ix3 b s o) idx 1 = 0 := by
      unfold GatherDims.start
      exact dif_neg (fun h => absurd (List.mem_singleton.mp h) (by decide))
    rw [h0]
    unfold GatherDims.offCoord
    rw [dif_pos ((GatherDims.mem_sKept _ _).mpr ⟨fun h => absurd (List.mem_singleton.mp h) (by decide), List.not_mem_nil⟩)]
    have key : ∀ a : Fin 3, a = 2 → (ix3 b s o a).val = o.val := by
      rintro _ rfl
      rfl
    simp only [Nat.zero_add]
    exact key _ (List.mem_singleton.mp (List.getElem_mem _))

/-- Row `e` of a table of eight rows with a ninth put under it. -/
def row9 {α : Type} (A : S8x96.Idx → α) (B : S96.Idx → α) (e : Fin 9) (o : Fin 96) : α :=
  if h : e.val < 8 then A (ix2 ⟨e.val, h⟩ o) else B (ix1 o)

/-- A place below nine comes back from the word that names it, negative places counted from the end. -/
theorem word9 : ∀ e : Fin 9, min (Scalar.select (IntOp.cmpi .slt (BitVec.ofNat 32 e.val) 0#32)
    (IntOp.addi (BitVec.ofNat 32 e.val) 9#32) (BitVec.ofNat 32 e.val)).toInt.toNat 8 = e.val := by decide

theorem gathered (A : Vec F S8x96 .f32) (B : Vec F S96 .f32) (I : Vec F S4x3 .i32) (b : Fin 4) (s : Fin 3) (o : Fin 96)
    (e : Fin 9) (h : I (ix2 b s) = BitVec.ofNat 32 e.val) :
    Host.gather gather_S9x96_S4x3x1_S4x3x96_2_0_n_n_0_2_196
      (concatenate S9x96 0 [⟨S8x96, A⟩, ⟨S1x96, broadcastInDim S1x96 ![1] bcast_S96_S1x96_1 B⟩] concatenates_S8x96_S1x96_S9x96_d0)
      (broadcastInDim S4x3x1 ![0, 1] bcast_S4x3_S4x3x1_0_1
        (select (cmpi .slt I (broadcastInDim S4x3 ![] bcast_S_S4x3 (constantI S_ 32 0#32)))
          (addi I (broadcastInDim S4x3 ![] bcast_S_S4x3 (constantI S_ 32 9#32))) I)) (ix3 b s o) = row9 A B e o := by
  have hw : (broadcastInDim S4x3x1 ![0, 1] bcast_S4x3_S4x3x1_0_1
        (select (cmpi .slt I (broadcastInDim S4x3 ![] bcast_S_S4x3 (constantI S_ 32 0#32)))
          (addi I (broadcastInDim S4x3 ![] bcast_S_S4x3 (constantI S_ 32 9#32))) I)) (ix3 b s 0) =
      Scalar.select (IntOp.cmpi .slt (I (ix2 b s)) 0#32) (IntOp.addi (I (ix2 b s)) 9#32) (I (ix2 b s)) := by
    pointwise
  rw [gather_rows]
  have he : (⟨min ((broadcastInDim S4x3x1 ![0, 1] bcast_S4x3_S4x3x1_0_1
        (select (cmpi .slt I (broadcastInDim S4x3 ![] bcast_S_S4x3 (constantI S_ 32 0#32)))
          (addi I (broadcastInDim S4x3 ![] bcast_S_S4x3 (constantI S_ 32 9#32))) I)) (ix3 b s 0)).toInt.toNat 8, by omega⟩ : Fin 9)
      = e := Fin.ext ((congrArg (fun w : BitVec 32 => min w.toInt.toNat 8) (hw.trans (by rw [h]))).trans (word9 e))
  rw [he]
  unfold row9
  pointwise

/-- The word of slot `s` of image `b`, and its gate. -/
abbrev slotWord (b : Fin 4) (s : Fin 3) : BitVec 32 :=
  (V (Proc.devRef .tc main_v0_2) : Vec F S4x1x8 .i32) (ix3 b 0 ⟨s.val, by omega⟩)
abbrev slotGate (b : Fin 4) (s : Fin 3) : F .f32 :=
  (V (Proc.devRef .tc main_v0_1) : Vec F S4x1x8 .f32) (ix3 b 0 ⟨s.val, by omega⟩)

theorem read_v4 (b : Fin 4) (s : Fin 3) :
    (after hostOps1 V (Proc.devRef .tc main_v4) : Vec F S4x3 .i32) (ix2 b s) = slotWord V b s := by
  after_reads_simp
  pointwise

variable (b : Fin 4) (s : Fin 3) (o : Fin 96) (e : Fin 9) (h : slotWord V b s = BitVec.ofNat 32 e.val)
include h

theorem read_v20 :
    (after hostOps1 V (Proc.devRef .tc main_v20) : Vec F S4x3x1x96 .f32) (ix4 b s 0 o) =
    row9 (V (Proc.devRef .tc main_arg3) : Vec F S8x96 .f32) (V (Proc.devRef .tc main_arg7) : Vec F S96 .f32) e o := by
  rw [← gathered _ _ (after hostOps1 V (Proc.devRef .tc main_v4) : Vec F S4x3 .i32) b s o e ((read_v4 V b s).trans h)]
  after_reads_simp
  pointwise
  rfl

theorem read_v31 :
    (after hostOps1 V (Proc.devRef .tc main_v31) : Vec F S4x3x1x96 .f32) (ix4 b s 0 o) =
    FloatOps.mulf (slotGate V b s)
      (row9 (V (Proc.devRef .tc main_arg4) : Vec F S8x96 .f32) (V (Proc.devRef .tc main_arg8) : Vec F S96 .f32) e o) := by
  rw [← gathered _ _ (after hostOps1 V (Proc.devRef .tc main_v4) : Vec F S4x3 .i32) b s o e ((read_v4 V b s).trans h)]
  after_reads_simp
  pointwise
  rfl

theorem read_v42 :
    (after hostOps1 V (Proc.devRef .tc main_v42) : Vec F S4x3x1x96 .f32) (ix4 b s 0 o) =
    FloatOps.mulf (slotGate V b s)
      (row9 (V (Proc.devRef .tc main_arg5) : Vec F S8x96 .f32) (V (Proc.devRef .tc main_arg9) : Vec F S96 .f32) e o) := by
  rw [← gathered _ _ (after hostOps1 V (Proc.devRef .tc main_v4) : Vec F S4x3 .i32) b s o e ((read_v4 V b s).trans h)]
  after_reads_simp
  pointwise
  rfl

end Cert.Proof.Tables
-- ==== Proof.Args.lean ====
/-
  Every argument array is, at the end of the program, what it was at launch: no host operation writes one and the two
  calls only read them.
-/
module

public import proofs.«01_k».proof.Proof.Whole

@[expose] public section

set_option maxRecDepth 16384

noncomputable section

namespace Cert.Proof.Whole

open Cert.KernelIdeal Cert.KernelIdeal.Gen
open Idealize.ShloMosaic Idealize.ShloMosaic.TcCoe
open Idealize.ShloMosaic.Pipeline (afterRegion)
open Cert.Proof.GateR (Val₀)

variable {F : FTy → Type} [FloatOps F] [Named F]
variable (m : (ℓ : Loc nD τ sig) → Buf (Elt F) ℓ) (c : Dev nD)

/-- The gating call leaves every array but its three results. -/
theorem W1_keeps (r : Ref sig .tc) (h0 : r ≠ main_v0_0) (h1 : r ≠ main_v0_1) (h2 : r ≠ main_v0_2) :
    W1 m c (Proc.devRef .tc r) = m ((c : Thread nD τ).loc r) := by
  unfold W1
  refine (Pipeline.afterRegion_keeps _ _ winFacts0.arr_inj (fun w => GateR.A_eq (Va m) c w) r fun w hw => ?_).trans rfl
  match w with
  | ⟨0, _⟩ => rfl
  | ⟨1, _⟩ => rfl
  | ⟨2, _⟩ => exact absurd hw.symm h0
  | ⟨3, _⟩ => exact absurd hw.symm h1
  | ⟨4, _⟩ => exact absurd hw.symm h2

/-- The host operations between the calls leave every array they do not write. -/
theorem W2_keeps (r : Ref sig .tc) (h : r ∉ hostOps1_W) : W2 m c (Proc.devRef .tc r) = W1 m c (Proc.devRef .tc r) :=
  StableHlo.after_of_writes_sub hostOps1 _ hostOps1_writes h

variable (hok : tableOk m)

/-- The expert call leaves every array but its result. -/
theorem W3_keeps (r : Ref sig .tc) (h0 : r ≠ main_v46) : W3 m hok c (Proc.devRef .tc r) = W2 m c (Proc.devRef .tc r) := by
  unfold W3
  refine Pipeline.afterRegion_keeps _ _ winFacts1.arr_inj (fun w => MoeR.A_eq (Vb m) (adm1 m hok) c w) r fun w hw => ?_
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => exact absurd hw.symm h0

/-- The last host operations leave every array they do not write. -/
theorem W4_keeps (r : Ref sig .tc) (h : r ∉ hostOps2_W) : W4 m hok c (Proc.devRef .tc r) = W3 m hok c (Proc.devRef .tc r) :=
  StableHlo.after_of_writes_sub hostOps2 _ hostOps2_writes h

/-- An array no operation and no call writes is at the end what it was at launch. -/
theorem kept (r : Ref sig .tc) (h2 : r ∉ hostOps2_W) (h1 : r ∉ hostOps1_W) (a : r ≠ main_v46) (b : r ≠ main_v0_0) (d : r ≠ main_v0_1)
    (e : r ≠ main_v0_2) : W4 m hok c (Proc.devRef .tc r) = m ((c : Thread nD τ).loc r) :=
  (W4_keeps m c hok r h2).trans ((W3_keeps m c hok r a).trans ((W2_keeps m c r h1).trans (W1_keeps m c r b d e)))

/-- A TensorCore array that is not scoped is among the arrays the run speaks of. -/
theorem mem_uc (r : Ref sig .tc) (h : r.isScoped = false) : (Proc.devRef .tc r : DevRef τ sig) ∈ Pipeline.ucRefs τ sig :=
  Finset.mem_filter.mpr ⟨StableHlo.devRef_mem_tcRefs r, by simpa using h⟩

end Cert.Proof.Whole

end
-- ==== Proof.TableOk.lean ====
module

public import proofs.«01_k».proof.Proof.Tables
public import proofs.«01_k».proof.Proof.GateMath
public import proofs.«01_k».proof.Proof.Args

/-! Over the extended reals every logit is attained, so the two expert numbers of an image are below eight, whatever
the inputs: the blocks the expert call's table names lie inside the weights. -/

@[expose] public section

set_option maxRecDepth 100000

noncomputable section

namespace Cert.Proof.Whole

open Cert.KernelIdeal Cert.KernelIdeal.Gen
open Idealize.ShloMosaic Idealize.ShloMosaic.TcCoe
open Cert.Proof.Math
open Cert.Proof.GateR (klogit)

/-- Window 1's block: the expert the table names, and the stretch of the sum. -/
theorem index1 {F : FTy → Type} [FloatOps F] [Named F] (pf : pre1.Contents (Elt F)) (i : grid1.Coords) :
    cc1_transform_1 k1_off1_inb numel1_S1x1 pf i =
      ![((pf 0 : Vec F S4x3 .i32) (ix2 (i 0) (i 2))).toNat, 0, (i 1).val] := by
  have h1 : (i 1).val < 6 := (i 1).isLt
  have e1 : (BitVec.ofNat 32 (i 1).val).toNat = (i 1).val := by
    rw [BitVec.toNat_ofNat]; exact Nat.mod_eq_of_lt (by omega)
  have e0 : pf.at 0 (Rect.unit (s := S4x3) (k1_off1 i) S1x1.size (k1_off1_inb i)) numel1_S1x1
      = (pf 0 : Vec F S4x3 .i32) (ix2 (i 0) (i 2)) := by
    refine congrArg (pf 0 : Vec F S4x3 .i32) (funext fun a => Fin.ext ?_)
    have h0 : (i 0).val < 4 := (i 0).isLt
    have h2 : (i 2).val < 3 := (i 2).isLt
    match a with
    | ⟨0, _⟩ =>
      show (BitVec.ofNat 32 (i 0).val).toNat + 1 * 0 = (i 0).val
      rw [BitVec.toNat_ofNat, Nat.mod_eq_of_lt (by omega), Nat.mul_zero, Nat.add_zero]
    | ⟨1, _⟩ =>
      show (BitVec.ofNat 32 (i 2).val).toNat + 1 * 0 = (i 2).val
      rw [BitVec.toNat_ofNat, Nat.mod_eq_of_lt (by omega), Nat.mul_zero, Nat.add_zero]
  show ![(pf.at 0 (Rect.unit (s := S4x3) (k1_off1 i) S1x1.size (k1_off1_inb i)) numel1_S1x1).toNat, 0, (BitVec.ofNat 32 (i 1).val).toNat] = _
  rw [e0, e1]

variable (m : (ℓ : Loc nD τ sig) → Buf (Elt Ideal) ℓ) (c : Dev nD)

/-- The sums of the channels of image `b`, and the gate weights, as its last strip finds them. -/
abbrev sumsOf (b : Fin 4) : Vec Ideal S96x1 .f32 := GateR.sums (Va m) c (14 * b.val + 13)
abbrev wgOf (b : Fin 4) : Vec Ideal S96x8 .f32 := GateR.wgate (Va m) c (14 * b.val + 13)

theorem W1_idx : W1 m c (Proc.devRef .tc main_v0_2) = fun i : S4x1x8.Idx =>
    GateR.idxRow (sumsOf m c (i 0)) (wgOf m c (i 0)) (ix3 0 0 (i 2)) :=
  (Pipeline.afterRegion_arr (GateR.dat (Va m) c) (V0 m c) winFacts0.arr_inj 4).trans (GateR.idx_arr (Va m) c)

theorem W1_gates : W1 m c (Proc.devRef .tc main_v0_1) = fun i : S4x1x8.Idx =>
    GateR.gatesRow (sumsOf m c (i 0)) (wgOf m c (i 0)) (ix3 0 0 (i 2)) :=
  (Pipeline.afterRegion_arr (GateR.dat (Va m) c) (V0 m c) winFacts0.arr_inj 3).trans (GateR.gates_arr (Va m) c)

/-- The logits of image `b`, as the kernel forms them. -/
abbrev logitOf (b : Fin 4) : Fin 8 → EReal := klogit (sumsOf m c b) (wgOf m c b)

/-- The table of expert numbers, for the two places the kernel finds. -/
theorem table_eq (b : Fin 4) {p q : Fin 8} (hp : First (logitOf m c b) p)
    (hq : First (fun e => if e = p then ⊥ else logitOf m c b e) q) (s : Fin 3) :
    (W2 m c (Proc.devRef .tc main_v45) : Vec Ideal S4x3 .i32) (ix2 b s) = BitVec.ofNat 32 (if s = 0 then p else q).val := by
  obtain ⟨h0, h1, -⟩ := GateR.idxRow_eq _ _ hp hq
  unfold W2
  rw [Tables.read_v45, W1_idx]
  by_cases hs : s = 0
  · rw [if_pos hs, if_pos hs]; exact h0
  · rw [if_neg hs, if_neg hs]; exact h1

theorem tableOk_ideal : tableOk m := by
  intro i
  obtain ⟨p, q, hp, hq⟩ := GateR.words (sumsOf m 0 (i 0)) (wgOf m 0 (i 0))
  have ht : (tbl m 0 : Vec Ideal S4x3 .i32) (ix2 (i 0) (i 2)) = _ := table_eq m 0 (i 0) hp hq (i 2)
  refine ⟨fun a => ?_, Or.inl rfl⟩
  rw [index1, ht]
  have h1 : (i 1).val < 6 := (i 1).isLt
  have hn : ∀ e : Fin 8, (BitVec.ofNat 32 e.val).toNat < 8 := by decide
  match a with
  | ⟨0, _⟩ => exact (Nat.mul_one _).trans_le (hn _)
  | ⟨1, _⟩ => show (0 + 1) * 96 ≤ 96; omega
  | ⟨2, _⟩ => show ((i 1).val + 1) * 4096 ≤ 24576; omega

end Cert.Proof.Whole
-- ==== Proof.MoeArr.lean ====
module

public import proofs.«01_k».proof.Proof.TableOk
public import Idealize.ShloMosaic.Lib.Pointwise
public import Idealize.ShloMosaic.Lib.Pipeline.ValueKit
public import Idealize.ShloMosaic.Lib.Pipeline.Covers

/-! The blocks the expert call stages at a point, read off their arrays. -/

@[expose] public section

set_option maxRecDepth 100000

noncomputable section

namespace Cert.Proof.MoeR

open Cert.KernelIdeal Cert.KernelIdeal.Gen
open Idealize.ShloMosaic Idealize.ShloMosaic.TcCoe Idealize.ShloMosaic.Tactic
open Idealize.ShloMosaic.Pipeline (Dat)
open Cert.Proof.GateR (Val₀)

variable {F : FTy → Type} [FloatOps F] [Named F]
variable (V : Val₀ F) (a : (pcfg1 (F := F)).Adm) (c : Dev nD)

theorem places : ∀ t : Fin grid1.N, cc1_transform_0 (grid1.coords t) = ![t.val / 18, 0, t.val / 3 % 6]
    ∧ cc1_transform_2 (grid1.coords t) = ![0, t.val / 3 % 6]
    ∧ cc1_transform_3 (grid1.coords t) = ![t.val / 18, t.val % 3, 0, 0]
    ∧ cc1_transform_4 (grid1.coords t) = ![t.val / 18, t.val % 3, 0, 0]
    ∧ cc1_transform_5 (grid1.coords t) = ![t.val / 18, t.val % 3, 0, 0]
    ∧ cc1_transform_6 (grid1.coords t) = ![t.val / 18, 0, 0] := by decide +kernel

theorem coords_all : ∀ t : Fin grid1.N, (grid1.coords t 0).val = t.val / 18 ∧ (grid1.coords t 1).val = t.val / 3 % 6
    ∧ (grid1.coords t 2).val = t.val % 3 := by decide +kernel

theorem index_0 (t : Fin grid1.N) : ((pcfg1 (F := F)).win a 0).index t = ![t.val / 18, 0, t.val / 3 % 6] := (places t).1
theorem index_2 (t : Fin grid1.N) : ((pcfg1 (F := F)).win a 2).index t = ![0, t.val / 3 % 6] := (places t).2.1
theorem index_3 (t : Fin grid1.N) : ((pcfg1 (F := F)).win a 3).index t = ![t.val / 18, t.val % 3, 0, 0] := (places t).2.2.1
theorem index_4 (t : Fin grid1.N) : ((pcfg1 (F := F)).win a 4).index t = ![t.val / 18, t.val % 3, 0, 0] := (places t).2.2.2.1
theorem index_5 (t : Fin grid1.N) : ((pcfg1 (F := F)).win a 5).index t = ![t.val / 18, t.val % 3, 0, 0] := (places t).2.2.2.2.1
theorem index_6 (t : Fin grid1.N) : ((pcfg1 (F := F)).win a 6).index t = ![t.val / 18, 0, 0] := (places t).2.2.2.2.2

section Blocks
variable (b : Fin 4) (k : Fin 6) (s : Fin 3) (n : ℕ) (hn : n = 18 * b.val + 3 * k.val + s.val)
include hn

theorem patch_at (r : Fin 224) (x : Fin 4096) :
    bPatch V a c n (ix3 0 r x) = (V c main_v0_0 : Vec F S4x224x24576 .f32) (ix3 b r ⟨k.val * 4096 + x.val, by omega⟩) := by
  have hm : n % 72 = n := Nat.mod_eq_of_lt (by omega)
  unfold bPatch iblk
  blk_ext [index_0] <;> erw [index_0] <;> dsimp [pt] <;> omega

theorem shared_at (o : Fin 96) (x : Fin 4096) :
    bShared V a c n (ix2 o x) = (V c main_v6 : Vec F S96x24576 .f32) (ix2 o ⟨k.val * 4096 + x.val, by omega⟩) := by
  have hm : n % 72 = n := Nat.mod_eq_of_lt (by omega)
  unfold bShared iblk
  blk_ext [index_2] <;> erw [index_2] <;> dsimp [pt] <;> omega

theorem b_at (o : Fin 96) : bB V a c n (ix4 0 0 0 o) = (V c main_v20 : Vec F S4x3x1x96 .f32) (ix4 b s 0 o) := by
  have hm : n % 72 = n := Nat.mod_eq_of_lt (by omega)
  unfold bB iblk
  blk_ext [index_3] <;> erw [index_3] <;> dsimp [pt] <;> omega

theorem lnw_at (o : Fin 96) : bLnw V a c n (ix4 0 0 0 o) = (V c main_v31 : Vec F S4x3x1x96 .f32) (ix4 b s 0 o) := by
  have hm : n % 72 = n := Nat.mod_eq_of_lt (by omega)
  unfold bLnw iblk
  blk_ext [index_4] <;> erw [index_4] <;> dsimp [pt] <;> omega

theorem lnb_at (o : Fin 96) : bLnb V a c n (ix4 0 0 0 o) = (V c main_v42 : Vec F S4x3x1x96 .f32) (ix4 b s 0 o) := by
  have hm : n % 72 = n := Nat.mod_eq_of_lt (by omega)
  unfold bLnb iblk
  blk_ext [index_5] <;> erw [index_5] <;> dsimp [pt] <;> omega

theorem expert_at (e : Fin 8) (he : ((a.1 0 : Vec F S4x3 .i32) (ix2 b s)).toNat = e.val) (o : Fin 96) (x : Fin 4096) :
    bExpert V a c n (ix3 0 o x) = (V c main_v5 : Vec F S8x96x24576 .f32) (ix3 e o ⟨k.val * 4096 + x.val, by omega⟩) := by
  have hm : n % 72 = n := Nat.mod_eq_of_lt (by omega)
  have hi : ((pcfg1 (F := F)).win a 1).index (pt n) = ![e.val, 0, k.val] := by
    refine (Cert.Proof.Whole.index1 a.1 (grid1.coords (pt n))).trans ?_
    obtain ⟨c0, c1, c2⟩ := coords_all (pt n)
    have e0 : grid1.coords (pt n) 0 = b := Fin.ext (c0.trans (show n % 72 / 18 = b.val by omega))
    have e1 : (grid1.coords (pt n) 1).val = k.val := c1.trans (show n % 72 / 3 % 6 = k.val by omega)
    have e2 : grid1.coords (pt n) 2 = s := Fin.ext (c2.trans (show n % 72 % 3 = s.val by omega))
    rw [e0, e1, e2, he]
  unfold bExpert iblk
  blk_ext [hi] <;> erw [hi] <;> dsimp [pt] <;> omega

end Blocks

/-- Every block of the result is some point's. -/
theorem covers_6 : ((cfg1 a).win 6).Covers := by
  refine Pipeline.Window.covers_of_index_surj _ rfl (show ∀ x : Fin 3, 0 < S1x224x96.size x by decide) fun β => ?_
  have h0 : (β (0 : Fin 3)).val < 4 := lt_of_lt_of_eq (β (0 : Fin 3)).isLt (show (4 + 1 - 1) / 1 = 4 from rfl)
  have h1 : (β (1 : Fin 3)).val < 1 := lt_of_lt_of_eq (β (1 : Fin 3)).isLt (show (224 + 224 - 1) / 224 = 1 from rfl)
  have h2 : (β (2 : Fin 3)).val < 1 := lt_of_lt_of_eq (β (2 : Fin 3)).isLt (show (96 + 96 - 1) / 96 = 1 from rfl)
  have key : ∀ x : Fin 4, ∃ t : Fin grid1.N, cc1_transform_6 (grid1.coords t) = ![x.val, 0, 0] := by decide +kernel
  obtain ⟨t, ht⟩ := key ⟨(β (0 : Fin 3)).val, h0⟩
  refine ⟨t, fun x => ?_⟩
  have e : ((cfg1 a).win 6).index t x = (![(β (0 : Fin 3)).val, 0, 0] : Fin 3 → ℕ) x := congrFun ht x
  rw [e]
  match x with
  | ⟨0, _⟩ => rfl
  | ⟨1, _⟩ => show 0 = (β (1 : Fin 3)).val; omega
  | ⟨2, _⟩ => show 0 = (β (2 : Fin 3)).val; omega

/-- The result's array after the call: what the last point of each image left. -/
theorem out_arr : (dat V a c).arrAt 6 (cfg1 a).N = fun i : S4x224x96.Idx => out V a c (18 * (i 0 : ℕ) + 17) (ix3 0 (i 1) (i 2)) := by
  refine (dat V a c).arrAt_eq_of_covers 6 _ (covers_6 a) fun t hf y => ?_
  have ht : t.val < 72 := lt_of_lt_of_eq t.isLt N_1
  have h17 := (flush_6 a t).mp hf
  rw [after_6]
  blk_simp [index_6]
  have hn : 18 * ((cfg1 a).win 6).index t (0 : Fin 3) + 17 = t.val := by
    erw [index_6]
    show 18 * (t.val / 18) + 17 = t.val
    omega
  erw [hn]
  refine congrArg (out V a c t.val) ?_
  idx_bounds y
  blk_ext [index_6] <;> erw [index_6]
  · show (y (1 : Fin 3)).val = 0 * 224 + (y (1 : Fin 3)).val; omega
  · show (y (2 : Fin 3)).val = 0 * 96 + (y (2 : Fin 3)).val; omega

section Ideal
variable (V : Val₀ Ideal) (a : (pcfg1 (F := Ideal)).Adm) (c : Dev nD)

/-- What the second operand of a point's product is: the shared weights in the last slot, the slot's expert otherwise. -/
abbrev weightAt (s : Fin 3) (n : ℕ) (o : Fin 96) (x : Fin 4096) : EReal :=
  if s = 2 then bShared V a c n (ix2 o x) else bExpert V a c n (ix3 0 o x)

theorem acc_upto (b : Fin 4) (s : Fin 3) (r : Fin 224) (o : Fin 96) (k : ℕ) (hk : k < 6) :
    acc V a c (18 * b.val + 3 * k + s.val) (ix3 0 r o) =
      ∑ j ∈ Finset.range (k + 1), ∑ x : Fin 4096,
        bPatch V a c (18 * b.val + 3 * j + s.val) (ix3 0 r x) * weightAt V a c s (18 * b.val + 3 * j + s.val) o x := by
  have hs : ∀ j, j < 6 → grid1.coords (pt (18 * b.val + 3 * j + s.val)) 2 = s := fun j hj =>
    Fin.ext ((coords_all _).2.2.trans (show (18 * b.val + 3 * j + s.val) % 72 % 3 = s.val by omega))
  have hsel : ∀ (s : Fin 3) (u v : EReal), Scalar.select (Scalar.cmpi .eq (BitVec.ofNat 32 s.val) 2#32) u v = if s = 2 then u else v := by
    intro s u v
    fin_cases s <;> rfl
  have h2 : ∀ (i : grid1.Coords) (sh : Vec Ideal S96x4096 .f32) (w : Vec Ideal S1x96x4096 .f32) (p : Vec Ideal S1x224x4096 .f32),
      k1_pay2 i sh w p (ix3 0 r o) = ∑ x : Fin 4096, p (ix3 0 r x) *
        Scalar.select (Scalar.cmpi .eq (BitVec.ofNat 32 (i 2).val) 2#32) (sh (ix2 o x)) (w (ix3 0 o x)) := by
    intro i sh w p
    pointwise [k1_pay2, k1_pay1]
  have h3 : ∀ (i : grid1.Coords) (sh : Vec Ideal S96x4096 .f32) (w : Vec Ideal S1x96x4096 .f32) (p : Vec Ideal S1x224x4096 .f32)
      (q : Vec Ideal S1x224x96 .f32), k1_pay3 i sh w p q (ix3 0 r o) = q (ix3 0 r o) + ∑ x : Fin 4096, p (ix3 0 r x) *
        Scalar.select (Scalar.cmpi .eq (BitVec.ofNat 32 (i 2).val) 2#32) (sh (ix2 o x)) (w (ix3 0 o x)) := by
    intro i sh w p q
    pointwise [k1_pay3, k1_pay1]
  induction k with
  | zero =>
    rw [acc_first _ _ _ _ (show (18 * b.val + 3 * 0 + s.val) / 3 % 6 = 0 by omega), h2, zero_add, Finset.sum_range_one, hs 0 hk]
    simp only [hsel, weightAt]
  | succ k ih =>
    rw [acc_later _ _ _ _ (show (18 * b.val + 3 * (k + 1) + s.val) / 3 % 6 ≠ 0 by omega), h3, Finset.sum_range_succ, ← ih (by omega), hs _ hk,
      show 18 * b.val + 3 * (k + 1) + s.val - 3 = 18 * b.val + 3 * k + s.val by omega]
    simp only [hsel, weightAt]

section Slot
variable (b : Fin 4) (s : Fin 3) (e : Fin 8) (he : ((a.1 0 : Vec Ideal S4x3 .i32) (ix2 b s)).toNat = e.val)

/-- The product of a patch with a slot's weights. -/
def prod (P : Vec Ideal S4x224x24576 .f32) (W : Vec Ideal S8x96x24576 .f32) (S : Vec Ideal S96x24576 .f32) (b : Fin 4) (s : Fin 3)
    (e : Fin 8) (r : Fin 224) (o : Fin 96) : EReal :=
  ∑ k : Fin 24576, P (ix3 b r k) * (if s = 2 then S (ix2 o k) else W (ix3 e o k))

include he
theorem acc_total (r : Fin 224) (o : Fin 96) :
    acc V a c (18 * b.val + 15 + s.val) (ix3 0 r o) = prod (V c main_v0_0) (V c main_v5) (V c main_v6) b s e r o := by
  have key : ∀ (P : Vec Ideal S4x224x24576 .f32) (W : Vec Ideal S8x96x24576 .f32) (S : Vec Ideal S96x24576 .f32),
      (∀ (k : Fin 6) (x : Fin 4096), bPatch V a c (18 * b.val + 3 * k.val + s.val) (ix3 0 r x) = P (ix3 b r ⟨k.val * 4096 + x.val, by omega⟩)) →
      (∀ (k : Fin 6) (x : Fin 4096), bShared V a c (18 * b.val + 3 * k.val + s.val) (ix2 o x) = S (ix2 o ⟨k.val * 4096 + x.val, by omega⟩)) →
      (∀ (k : Fin 6) (x : Fin 4096), bExpert V a c (18 * b.val + 3 * k.val + s.val) (ix3 0 o x) = W (ix3 e o ⟨k.val * 4096 + x.val, by omega⟩)) →
      (∑ k : Fin 6, ∑ x : Fin 4096, bPatch V a c (18 * b.val + 3 * k.val + s.val) (ix3 0 r x) *
        weightAt V a c s (18 * b.val + 3 * k.val + s.val) o x : EReal) = prod P W S b s e r o := by
    intro P W S hP hS hW
    unfold prod
    refine Fin.sum_mul_add_congr fun k x _ => ?_
    rw [hP, weightAt, hS, hW]
  rw [show 18 * b.val + 15 + s.val = 18 * b.val + 3 * 5 + s.val by omega, acc_upto V a c b s r o 5 (by decide), Finset.sum_range]
  exact key _ _ _ (fun k x => patch_at V a c b k s _ rfl r x) (fun k x => shared_at V a c b k s _ rfl o x)
    fun k x => expert_at V a c b k s _ rfl e he o x

end Slot

open Cert.Proof.Math

/-- What a slot adds to the result. -/
def slotRow (P : Vec Ideal S4x224x24576 .f32) (W : Vec Ideal S8x96x24576 .f32) (S : Vec Ideal S96x24576 .f32)
    (B L L' : Vec Ideal S4x3x1x96 .f32) (b : Fin 4) (s : Fin 3) (e : Fin 8) (r : Fin 224) (o : Fin 96) : EReal :=
  L (ix4 b s 0 o) * normed (fun o => prod P W S b s e r o + B (ix4 b s 0 o)) o + L' (ix4 b s 0 o)

theorem pay5_at (x : Vec Ideal S1x224x96 .f32) (y l l' : Vec Ideal S1x1x1x96 .f32) (r : Fin 224) (o : Fin 96) :
    k1_pay5 x y l l' (ix2 r o) = l (ix4 0 0 0 o) * normed (fun o => x (ix3 0 r o) + y (ix4 0 0 0 o)) o + l' (ix4 0 0 0 o) := by
  rw [normed_eq]
  unfold mean96
  pointwise [k1_pay5]

theorem row_total (b : Fin 4) (s : Fin 3) (e : Fin 8) (he : ((a.1 0 : Vec Ideal S4x3 .i32) (ix2 b s)).toNat = e.val)
    (r : Fin 224) (o : Fin 96) (n : ℕ) (hn : n = 18 * b.val + 15 + s.val) :
    k1_pay5 (acc V a c n) (bB V a c n) (bLnw V a c n) (bLnb V a c n) (ix2 r o) =
      slotRow (V c main_v0_0) (V c main_v5) (V c main_v6) (V c main_v20) (V c main_v31) (V c main_v42) b s e r o := by
  subst hn
  have h5 : 18 * b.val + 15 + s.val = 18 * b.val + 3 * (5 : Fin 6).val + s.val := by show _ = 18 * b.val + 3 * 5 + s.val; omega
  rw [pay5_at]
  unfold slotRow
  simp only [acc_total V a c b s e he, b_at V a c b 5 s _ h5, lnw_at V a c b 5 s _ h5, lnb_at V a c b 5 s _ h5]

theorem out_total (b : Fin 4) (e : Fin 3 → Fin 8) (he : ∀ s, ((a.1 0 : Vec Ideal S4x3 .i32) (ix2 b s)).toNat = (e s).val)
    (r : Fin 224) (o : Fin 96) :
    ((dat V a c).arrAt 6 (cfg1 a).N : Vec Ideal S4x224x96 .f32) (ix3 b r o) =
      slotRow (V c main_v0_0) (V c main_v5) (V c main_v6) (V c main_v20) (V c main_v31) (V c main_v42) b 0 (e 0) r o +
      slotRow (V c main_v0_0) (V c main_v5) (V c main_v6) (V c main_v20) (V c main_v31) (V c main_v42) b 1 (e 1) r o +
      slotRow (V c main_v0_0) (V c main_v5) (V c main_v6) (V c main_v20) (V c main_v31) (V c main_v42) b 2 (e 2) r o := by
  have h6 : ∀ (x : Vec Ideal S1x224x96 .f32) (y l l' : Vec Ideal S1x1x1x96 .f32), k1_pay6 x y l l' (ix3 0 r o) = k1_pay5 x y l l' (ix2 r o) := by
    intro x y l l'
    pointwise [k1_pay6]
  have h4 : ∀ (x : Vec Ideal S224x96 .f32) (y : Vec Ideal S1x224x96 .f32), k1_pay4 x y (ix3 0 r o) = y (ix3 0 r o) + x (ix2 r o) := by
    intro x y
    pointwise [k1_pay4]
  rw [out_arr]
  show out V a c (18 * b.val + 17) (ix3 0 r o) = _
  rw [out_later _ _ _ _ (show (18 * b.val + 17) % 3 ≠ 0 by omega), h4, row_total V a c b 2 (e 2) (he 2) r o (18 * b.val + 17) rfl,
    show 18 * b.val + 17 - 1 = 18 * b.val + 16 by omega,
    out_later _ _ _ _ (show (18 * b.val + 16) % 3 ≠ 0 by omega), h4, row_total V a c b 1 (e 1) (he 1) r o (18 * b.val + 16) rfl,
    show 18 * b.val + 16 - 1 = 18 * b.val + 15 by omega,
    out_first _ _ _ _ (show (18 * b.val + 15) % 3 = 0 by omega), h6, row_total V a c b 0 (e 0) (he 0) r o (18 * b.val + 15) rfl]

end Ideal

end Cert.Proof.MoeR
-- ==== Proof.Frames.lean ====
module

public import proofs.«01_k».proof.Defs
public import proofs.«01_k».proof.Proof.TableOk
public import proofs.«01_k».proof.Proof.Gen.ReferenceIdeal.Run

/-! The two whole programs end with their arguments unchanged and every counter back at zero. -/

@[expose] public section

set_option maxRecDepth 16384

noncomputable section

namespace Cert.Proof.Whole

open Cert.KernelIdeal Cert.KernelIdeal.Gen
open Idealize.ShloMosaic Idealize.ShloMosaic.TcCoe Idealize.SL.Sem

variable (m : (ℓ : Loc nD τ sig) → Buf (Elt Ideal) ℓ)

/-- What the result holds at the end. -/
abbrev outArr (c : Dev nD) : Buf (Elt Ideal) ((c : Thread nD τ).loc main_v49) :=
  W4 m (tableOk_ideal m) c (Proc.devRef .tc main_v49)

/-- The run of the whole kernel: the result, the arguments and the counters. -/
theorem run_ideal (ρ : Dev nD → PrngReg) :
    θ_run defs (onTc (τ := τ) (main (F := Ideal))) ⟨m, fun _ => 0, ρ⟩ (fun r => (∀ c : Dev nD,
      r.2.mem ((c : Thread nD τ).loc main_v49) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9))
      ∧ r.2.sem = fun _ => 0) := by
  refine (θ_run defs _ _).mono (fun r h => ⟨fun c => ?_, h.2⟩) (run m (tableOk_ideal m) ρ)
  have k : ∀ r' : Ref sig .tc, r'.isScoped = false → r' ∉ hostOps2_W → r' ∉ hostOps1_W → r' ≠ main_v46 → r' ≠ main_v0_0 →
      r' ≠ main_v0_1 → r' ≠ main_v0_2 → r.2.mem ((c : Thread nD τ).loc r') = m ((c : Thread nD τ).loc r') :=
    fun r' hs h2 h1 a b d e => (h.1 c _ (mem_uc r' hs)).trans (kept m c (tableOk_ideal m) r' h2 h1 a b d e)
  refine ⟨h.1 c _ (mem_uc main_v49 rfl), k main_arg0 ?_ ?_ ?_ ?_ ?_ ?_ ?_, k main_arg1 ?_ ?_ ?_ ?_ ?_ ?_ ?_, k main_arg2 ?_ ?_ ?_ ?_ ?_ ?_ ?_,
    k main_arg3 ?_ ?_ ?_ ?_ ?_ ?_ ?_, k main_arg4 ?_ ?_ ?_ ?_ ?_ ?_ ?_, k main_arg5 ?_ ?_ ?_ ?_ ?_ ?_ ?_, k main_arg6 ?_ ?_ ?_ ?_ ?_ ?_ ?_,
    k main_arg7 ?_ ?_ ?_ ?_ ?_ ?_ ?_, k main_arg8 ?_ ?_ ?_ ?_ ?_ ?_ ?_, k main_arg9 ?_ ?_ ?_ ?_ ?_ ?_ ?_⟩ <;> decide

theorem frame_kernel (ρ : Dev nD → PrngReg) :
    θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9))
      ∧ r.2.sem = fun _ => 0) :=
  (θ_run defs _ _).mono (fun _ h => ⟨fun c => (h.1 c).2, h.2⟩) (run_ideal m ρ)

/-- The reference: the arguments because no operation writes one, the counters because it declares no semaphore. -/
theorem frame_reference : @Cert.quiescent_ReferenceIdeal Cert.ReferenceIdeal.Gen.facts := by
  intro m ρ _
  exact (θ_run Cert.ReferenceIdeal.defs _ _).mono (fun r h => ⟨fun c => (h c).2,
    sem_eq_zero_of_no_sems (by decide) r.2⟩) (Cert.ReferenceIdeal.Value.run (F := Ideal) m ρ)

end Cert.Proof.Whole

end
-- ==== Proof.KernelValue.lean ====
module

public import proofs.«01_k».proof.Proof.Conv
public import proofs.«01_k».proof.Proof.MoeArr
public import proofs.«01_k».proof.Proof.GateRead
public import proofs.«01_k».proof.Proof.GateArr
public import proofs.«01_k».proof.Proof.Frames

/-! The kernel's result at an index, in the arguments. -/

@[expose] public section

set_option maxRecDepth 100000

noncomputable section

namespace Cert.Proof.Whole

open Cert.KernelIdeal Cert.KernelIdeal.Gen
open Idealize.ShloMosaic Idealize.ShloMosaic.TcCoe Idealize.ShloMosaic.Tactic
open Cert.Proof.Math

/-- The result's layout. -/
theorem read_v49 {F : FTy → Type} [FloatOps F] [Named F] (V : Valuation τ sig (Elt F)) (b : Fin 4) (o : Fin 96) (h w : Fin 14) :
    (StableHlo.after hostOps2 V (Proc.devRef .tc main_v49) : Vec F S4x96x14x14 .f32) (ix4 b o h w) =
      (V (Proc.devRef .tc main_v46) : Vec F S4x224x96 .f32) (ix3 b ⟨h.val * 16 + w.val, by omega⟩ o) := by
  after_reads_simp
  pointwise

variable (m : (ℓ : Loc nD τ sig) → Buf (Elt Ideal) ℓ) (c : Dev nD)

/-- The arguments. -/
abbrev aX : Vec Ideal S4x96x224x224 .f32 := m ((c : Thread nD τ).loc main_arg0)
abbrev aG : Vec Ideal S96x8 .f32 := m ((c : Thread nD τ).loc main_arg1)
abbrev aW : Vec Ideal S8x96x96x16x16 .f32 := m ((c : Thread nD τ).loc main_arg2)
abbrev aB : Vec Ideal S8x96 .f32 := m ((c : Thread nD τ).loc main_arg3)
abbrev aL : Vec Ideal S8x96 .f32 := m ((c : Thread nD τ).loc main_arg4)
abbrev aM : Vec Ideal S8x96 .f32 := m ((c : Thread nD τ).loc main_arg5)
abbrev sW : Vec Ideal S96x96x16x16 .f32 := m ((c : Thread nD τ).loc main_arg6)
abbrev sB : Vec Ideal S96 .f32 := m ((c : Thread nD τ).loc main_arg7)
abbrev sL : Vec Ideal S96 .f32 := m ((c : Thread nD τ).loc main_arg8)
abbrev sM : Vec Ideal S96 .f32 := m ((c : Thread nD τ).loc main_arg9)

theorem patches_at (b : Fin 4) (h w : Fin 14) (k : Fin 24576) :
    (W2 m c (Proc.devRef .tc main_v0_0) : Vec Ideal S4x224x24576 .f32) (ix3 b ⟨h.val * 16 + w.val, by omega⟩ k) =
      aX m c (ix4 b ⟨k.val / 256, by omega⟩ ⟨h.val * 16 + k.val / 16 % 16, by omega⟩ ⟨w.val * 16 + k.val % 16, by omega⟩) := by
  have e : W1 m c (Proc.devRef .tc main_v0_0) = _ :=
    (Pipeline.afterRegion_arr (GateR.dat (Va m) c) (V0 m c) winFacts0.arr_inj 2).trans (GateR.patches_arr (Va m) c)
  rw [W2_keeps m c main_v0_0 (by decide), e]
  have h2 : ∀ (x : Vec Ideal S1x96x16x224 .f32) (r : Fin 16) (hr : r.val < 14), k0_pay2 x (ix3 0 r k) =
      x (ix4 0 ⟨k.val / 256, by omega⟩ ⟨k.val / 16 % 16, by omega⟩ ⟨r.val * 16 + k.val % 16, by omega⟩) := by
    intro x r hr
    have h0 : k0_pay2 x (ix3 0 r k) = if h : r.val < 14 then
        x (ix4 0 ⟨k.val / 16 / 16, by omega⟩ ⟨k.val / 16 % 16, by omega⟩ ⟨r.val * 16 + k.val % 16, by omega⟩) else 0 := by
      pointwise [k0_pay2, k0_pay1]
    rw [h0, dif_pos hr]
    have e1 : k.val / 16 / 16 = k.val / 256 := by omega
    simp only [e1]
  have hd : (h.val * 16 + w.val) / 16 = h.val := by omega
  have hm : (h.val * 16 + w.val) % 16 = w.val := by omega
  have hr : (⟨(h.val * 16 + w.val) % 16, by omega⟩ : Fin 16) = ⟨w.val, by omega⟩ := Fin.ext hm
  refine (congrArg₂ (fun (n : ℕ) (r : Fin 16) => (k0_pay2 (GateR.strip (Va m) c n) (ix3 0 r k) : EReal))
    (show 14 * b.val + (h.val * 16 + w.val) / 16 = 14 * b.val + h.val by rw [hd]) hr).trans ?_
  exact (h2 _ ⟨w.val, by omega⟩ w.isLt).trans (GateR.strip_at (Va m) c b h _ _ _)

theorem weights_at (e : Fin 8) (o : Fin 96) (k : Fin 24576) :
    (W2 m c (Proc.devRef .tc main_v5) : Vec Ideal S8x96x24576 .f32) (ix3 e o k) =
      aW m c (ix5 e o ⟨k.val / 256, by omega⟩ ⟨k.val / 16 % 16, by omega⟩ ⟨k.val % 16, by omega⟩) := by
  unfold W2
  rw [Tables.read_v5, W1_keeps m c main_arg2 (by decide) (by decide) (by decide)]

theorem shared_at (o : Fin 96) (k : Fin 24576) :
    (W2 m c (Proc.devRef .tc main_v6) : Vec Ideal S96x24576 .f32) (ix2 o k) =
      sW m c (ix4 o ⟨k.val / 256, by omega⟩ ⟨k.val / 16 % 16, by omega⟩ ⟨k.val % 16, by omega⟩) := by
  unfold W2
  rw [Tables.read_v6, W1_keeps m c main_arg6 (by decide) (by decide) (by decide)]

/-- A slot's product is the patch against the expert's filter, or against the shared one. -/
theorem prod_at (b : Fin 4) (s : Fin 3) (e : Fin 8) (h w : Fin 14) (o : Fin 96) :
    MoeR.prod (W2 m c (Proc.devRef .tc main_v0_0)) (W2 m c (Proc.devRef .tc main_v5)) (W2 m c (Proc.devRef .tc main_v6)) b s e
        ⟨h.val * 16 + w.val, by omega⟩ o =
      conv (fun ch r q => aX m c (ix4 b ch r q))
        (if s = 2 then fun ch p q => sW m c (ix4 o ch p q) else fun ch p q => aW m c (ix5 e o ch p q)) h w := by
  unfold MoeR.prod
  rw [← conv_flat]
  refine Finset.sum_congr rfl fun k _ => ?_
  rw [patches_at, weights_at, shared_at]
  by_cases hs : s = 2
  · simp only [hs, if_true]
  · simp only [hs, if_false]

/-- One expert's normalised output. -/
def expertOut (b : Fin 4) (e : Fin 8) (h w : Fin 14) (o : Fin 96) : EReal :=
  normed (fun o => conv (fun ch r q => aX m c (ix4 b ch r q)) (fun ch p q => aW m c (ix5 e o ch p q)) h w + aB m c (ix2 e o)) o

/-- The shared expert's. -/
def sharedOut (b : Fin 4) (h w : Fin 14) (o : Fin 96) : EReal :=
  normed (fun o => conv (fun ch r q => aX m c (ix4 b ch r q)) (fun ch p q => sW m c (ix4 o ch p q)) h w + sB m c (ix1 o)) o

section Row
variable (b : Fin 4) (h w : Fin 14) (o : Fin 96)

abbrev rowAt (s : Fin 3) (e : Fin 8) : EReal :=
  MoeR.slotRow (W2 m c (Proc.devRef .tc main_v0_0)) (W2 m c (Proc.devRef .tc main_v5)) (W2 m c (Proc.devRef .tc main_v6))
    (W2 m c (Proc.devRef .tc main_v20)) (W2 m c (Proc.devRef .tc main_v31)) (W2 m c (Proc.devRef .tc main_v42)) b s e
    ⟨h.val * 16 + w.val, by omega⟩ o

theorem keeps1 (r : Ref sig .tc) (h0 : r ≠ main_v0_0) (h1 : r ≠ main_v0_1) (h2 : r ≠ main_v0_2) :
    W1 m c (Proc.devRef .tc r) = m ((c : Thread nD τ).loc r) := W1_keeps m c r h0 h1 h2

/-- An expert's row, scaled by its gate. -/
theorem row_expert (s : Fin 3) (hs : s ≠ 2) (e : Fin 8) (hw : Tables.slotWord (W1 m c) b s = BitVec.ofNat 32 e.val) (g : EReal)
    (hg : Tables.slotGate (W1 m c) b s = g) :
    rowAt m c b h w o s e = (g * aL m c (ix2 e o)) * expertOut m c b e h w o + g * aM m c (ix2 e o) := by
  have hw' : Tables.slotWord (W1 m c) b s = BitVec.ofNat 32 (⟨e.val, by omega⟩ : Fin 9).val := hw
  have r9 : ∀ (A : Vec Ideal S8x96 .f32) (B : Vec Ideal S96 .f32) (o : Fin 96), Tables.row9 A B ⟨e.val, by omega⟩ o = A (ix2 e o) :=
    fun A B o => dif_pos e.isLt
  have h20 : ∀ o, (W2 m c (Proc.devRef .tc main_v20) : Vec Ideal S4x3x1x96 .f32) (ix4 b s 0 o) = aB m c (ix2 e o) := fun o => by
    unfold W2
    rw [Tables.read_v20 _ b s o _ hw', r9, keeps1 m c main_arg3 (by decide) (by decide) (by decide)]
  have h31 : (W2 m c (Proc.devRef .tc main_v31) : Vec Ideal S4x3x1x96 .f32) (ix4 b s 0 o) = g * aL m c (ix2 e o) := by
    unfold W2
    rw [Tables.read_v31 _ b s o _ hw', r9, keeps1 m c main_arg4 (by decide) (by decide) (by decide), hg]
    rfl
  have h42 : (W2 m c (Proc.devRef .tc main_v42) : Vec Ideal S4x3x1x96 .f32) (ix4 b s 0 o) = g * aM m c (ix2 e o) := by
    unfold W2
    rw [Tables.read_v42 _ b s o _ hw', r9, keeps1 m c main_arg5 (by decide) (by decide) (by decide), hg]
    rfl
  exact congrArg₂ (· + ·) (congrArg₂ (· * ·) h31 (congrArg (fun f => normed f o) (funext fun o =>
    congrArg₂ (· + ·) ((prod_at m c b s e h w o).trans (by rw [if_neg hs])) (h20 o)))) h42

/-- The shared expert's row. -/
theorem row_shared (e : Fin 8) (hw : Tables.slotWord (W1 m c) b 2 = 8#32) (hg : Tables.slotGate (W1 m c) b 2 = (1 : EReal)) :
    rowAt m c b h w o 2 e = sL m c (ix1 o) * sharedOut m c b h w o + sM m c (ix1 o) := by
  have hw' : Tables.slotWord (W1 m c) b 2 = BitVec.ofNat 32 (8 : Fin 9).val := hw
  have r9 : ∀ (A : Vec Ideal S8x96 .f32) (B : Vec Ideal S96 .f32) (o : Fin 96), Tables.row9 A B 8 o = B (ix1 o) :=
    fun A B o => dif_neg (by decide)
  have h20 : ∀ o, (W2 m c (Proc.devRef .tc main_v20) : Vec Ideal S4x3x1x96 .f32) (ix4 b 2 0 o) = sB m c (ix1 o) := fun o => by
    unfold W2
    rw [Tables.read_v20 _ b 2 o _ hw', r9, keeps1 m c main_arg7 (by decide) (by decide) (by decide)]
  have h31 : (W2 m c (Proc.devRef .tc main_v31) : Vec Ideal S4x3x1x96 .f32) (ix4 b 2 0 o) = sL m c (ix1 o) := by
    unfold W2
    rw [Tables.read_v31 _ b 2 o _ hw', r9, keeps1 m c main_arg8 (by decide) (by decide) (by decide), hg]
    exact one_mul (M := EReal) _
  have h42 : (W2 m c (Proc.devRef .tc main_v42) : Vec Ideal S4x3x1x96 .f32) (ix4 b 2 0 o) = sM m c (ix1 o) := by
    unfold W2
    rw [Tables.read_v42 _ b 2 o _ hw', r9, keeps1 m c main_arg9 (by decide) (by decide) (by decide), hg]
    exact one_mul (M := EReal) _
  exact congrArg₂ (· + ·) (congrArg₂ (· * ·) h31 (congrArg (fun f => normed f o) (funext fun o =>
    congrArg₂ (· + ·) ((prod_at m c b 2 e h w o).trans (by rw [if_pos rfl])) (h20 o)))) h42

end Row

/-- The logits of image `b`. -/
abbrev lg (b : Fin 4) : Fin 8 → EReal := GateR.logit (aX m c) (aG m c) b

theorem logitOf_eq (b : Fin 4) : logitOf m c b = lg m c b := funext fun e => GateR.klogit_total (Va m) c b e

/-- The gate of the first expert. -/
abbrev gate1 (b : Fin 4) (p q : Fin 8) : EReal := Ideal.div 1 (1 + Ideal.exp (lg m c b q - lg m c b p))

/-- The kernel's result. -/
theorem kernel_value (b : Fin 4) {p q : Fin 8} (hp : First (lg m c b) p)
    (hq : First (fun e => if e = p then ⊥ else lg m c b e) q) (hne : q ≠ p) (o : Fin 96) (h w : Fin 14) :
    (outArr m c : Vec Ideal S4x96x14x14 .f32) (ix4 b o h w) =
      ((gate1 m c b p q * aL m c (ix2 p o)) * expertOut m c b p h w o + gate1 m c b p q * aM m c (ix2 p o)) +
      (((1 - gate1 m c b p q) * aL m c (ix2 q o)) * expertOut m c b q h w o + (1 - gate1 m c b p q) * aM m c (ix2 q o)) +
      (sL m c (ix1 o) * sharedOut m c b h w o + sM m c (ix1 o)) := by
  rw [← logitOf_eq] at hp hq
  have ht : ∀ s : Fin 3, ((tbl m 0 : Vec Ideal S4x3 .i32) (ix2 b s)).toNat = ((fun s : Fin 3 => if s = 0 then p else q) s).val := by
    intro s
    have hn : ∀ e : Fin 8, (BitVec.ofNat 32 e.val).toNat = e.val := by decide
    have e : (tbl m 0 : Vec Ideal S4x3 .i32) (ix2 b s) = _ := table_eq m 0 b (by rw [Subsingleton.elim 0 c]; exact hp) (by rw [Subsingleton.elim 0 c]; exact hq) s
    rw [e, hn]
  have ho := MoeR.out_total (Vb m) (adm1 m (tableOk_ideal m)) c b (fun s : Fin 3 => if s = 0 then p else q) ht ⟨h.val * 16 + w.val, by omega⟩ o
  have h46 : W3 m (tableOk_ideal m) c (Proc.devRef .tc main_v46) = (MoeR.dat (Vb m) (adm1 m (tableOk_ideal m)) c).arrAt 6 (cfg1 (adm1 m (tableOk_ideal m))).N :=
    Pipeline.afterRegion_arr (MoeR.dat (Vb m) (adm1 m (tableOk_ideal m)) c) (W2 m c) winFacts1.arr_inj 6
  obtain ⟨i0, i1, i2⟩ := GateR.idxRow_eq _ _ hp hq
  obtain ⟨g0, g1, g2⟩ := GateR.gatesRow_eq _ _ hp hq hne
  have eg : Ideal.div 1 (1 + Ideal.exp (logitOf m c b q - logitOf m c b p)) = gate1 m c b p q := by rw [logitOf_eq]
  have hI : ∀ s : Fin 8, (W1 m c (Proc.devRef .tc main_v0_2) : Vec Ideal S4x1x8 .i32) (ix3 b 0 s) = GateR.idxRow (sumsOf m c b) (wgOf m c b) (ix3 0 0 s) :=
    fun s => by rw [W1_idx]; rfl
  have hG : ∀ s : Fin 8, (W1 m c (Proc.devRef .tc main_v0_1) : Vec Ideal S4x1x8 .f32) (ix3 b 0 s) = GateR.gatesRow (sumsOf m c b) (wgOf m c b) (ix3 0 0 s) :=
    fun s => by rw [W1_gates]; rfl
  unfold outArr W4
  rw [read_v49, h46]
  refine ho.trans ?_
  rw [← eg]
  exact congrArg₂ (· + ·) (congrArg₂ (· + ·)
    (row_expert m c b h w o 0 (by decide) p ((hI 0).trans i0) _ ((hG 0).trans g0))
    (row_expert m c b h w o 1 (by decide) q ((hI 1).trans i1) _ ((hG 1).trans g1)))
    (row_shared m c b h w o q ((hI 2).trans i2) ((hG 2).trans g2))

end Cert.Proof.Whole
-- ==== Proof.Equation.lean ====
module

public import proofs.«01_k».proof.Proof.RefValue
public import proofs.«01_k».proof.Proof.KernelValue
public import Idealize.ShloMosaic.Lib.ReduceAll

/-! Where the image and the gate weights are finite, the reference's result is the kernel's. -/

@[expose] public section

open scoped BigOperators

noncomputable section

namespace Cert.Proof.Math

open Idealize.ShloMosaic

/-- A sum over the experts with two weights that may be other than nought. -/
theorem sum_two {p q : Fin 8} (hne : q ≠ p) (a b : EReal) (t : Fin 8 → EReal) :
    ∑ e : Fin 8, (if q = e then b else if p = e then a else 0) * t e = a * t p + b * t q := by
  have key : ∀ e : Fin 8, (if q = e then b else if p = e then a else 0) * t e =
      (if p = e then a * t e else 0) + (if q = e then b * t e else 0) := by
    intro e
    by_cases h : q = e
    · subst h; simp [hne.symm]
    · by_cases h' : p = e <;> simp [h, h']
  simp only [key, Finset.sum_add_distrib, Finset.sum_ite_eq, Finset.mem_univ, if_true]

/-- A number whose absolute value is under the infinity is a real. -/
theorem real_of_abs {x : EReal} (h : Ideal.cmp .olt (max x (-x)) (Ideal.ofBits .f32 2139095040#32) = 1#1) : ∃ r : ℝ, x = r := by
  have hi : Ideal.ofBits .f32 2139095040#32 = ⊤ := by simp [Ideal.ofBits, Ideal.ieee]
  rw [hi] at h
  have h' : max x (-x) < ⊤ := by
    by_contra c
    simp [Ideal.cmp, c] at h
  induction x with
  | bot => simp at h'
  | top => simp at h'
  | coe r => exact ⟨r, rfl⟩

/-- A logit of reals is a real. -/
theorem logit_real (x : Vec Ideal Cert.KernelIdeal.S4x96x224x224 .f32) (g : Vec Ideal Cert.KernelIdeal.S96x8 .f32)
    (hx : ∀ i, ∃ r : ℝ, x i = (r : EReal)) (hg : ∀ i, ∃ r : ℝ, g i = (r : EReal)) (b : Fin 4) (e : Fin 8) :
    ∃ r : ℝ, GateR.logit x g b e = r := by
  refine sum_real _ _ fun ch _ => ?_
  obtain ⟨s, hs⟩ : ∃ r : ℝ, GateR.chanSum x b ch = r := sum_real _ _ fun h _ => sum_real _ _ fun w _ => hx _
  obtain ⟨t, ht⟩ := hg (ix2 ch e)
  refine ⟨s * (1 / 50176) * t, ?_⟩
  rw [hs, litHW, Ideal.div_coe (by norm_num), EReal.coe_mul, EReal.coe_mul]
  exact congrArg _ ht

end Cert.Proof.Math

namespace Cert.Proof.Whole

open Cert.KernelIdeal Cert.KernelIdeal.Gen
open Idealize.ShloMosaic Idealize.ShloMosaic.TcCoe
open Cert.Proof.Math

theorem finite_args [hP : Cert.Pre_finite_gating.Facts] (m : (ℓ : Loc nD τ sig) → Buf (Elt Ideal) ℓ)
    (h : Cert.Pre_KernelIdeal_finite_gating m) (c : Dev nD) :
    (∀ i, ∃ r : ℝ, aX m c i = (r : EReal)) ∧ ∀ i, ∃ r : ℝ, aG m c i = (r : EReal) := by
  have e := congrFun (h c) (fun i => i.elim0)
  unfold Cert.Pre_finite_gating.fn at e
  obtain ⟨e1, e2⟩ := IntOp.andi_eq_one.1 e
  haveI : Subsingleton Cert.Pre_finite_gating.S_.Idx := ⟨fun a b => funext fun i => i.elim0⟩
  exact ⟨fun i => real_of_abs (Host.reduce_andi_all _ _ _ _ _ e1 i), fun i => real_of_abs (Host.reduce_andi_all _ _ _ _ _ e2 i)⟩

/-- The reference's result is the kernel's, at one index. -/
theorem equal_at (m : (ℓ : Loc nD τ sig) → Buf (Elt Ideal) ℓ) (c : Dev nD)
    (hx : ∀ i, ∃ r : ℝ, aX m c i = (r : EReal)) (hg : ∀ i, ∃ r : ℝ, aG m c i = (r : EReal)) (b : Fin 4) (o : Fin 96) (h w : Fin 14) :
    Ref.total (Ref.gates (Ref.logits (aX m c) (aG m c))) (Ref.unit8 (Ref.y8 (aX m c) (aW m c) (aB m c))) (aL m c) (aM m c)
      (Ref.unit1 (Ref.y1 (aX m c) (sW m c) (sB m c))) (sL m c) (sM m c) (ix4 b o h w) =
    (outArr m c : Vec Ideal S4x96x14x14 .f32) (ix4 b o h w) := by
  have hr : ∀ b e, ∃ r : ℝ, lg m c b e = r := fun b e => logit_real _ _ hx hg b e
  have hbot : ∀ b e, lg m c b e ≠ ⊥ := by
    intro b e; obtain ⟨r, hr⟩ := hr b e; rw [hr]; exact EReal.coe_ne_bot r
  have hT : ∀ b, ∃ pq : Fin 8 × Fin 8, First (lg m c b) pq.1 ∧ First (fun e => if e = pq.1 then ⊥ else lg m c b e) pq.2 := by
    intro b
    obtain ⟨p, hp⟩ := exists_first (lg m c b)
    obtain ⟨q, hq⟩ := exists_first (fun e => if e = p then ⊥ else lg m c b e)
    exact ⟨(p, q), hp, hq⟩
  choose PQ hP hQ using hT
  have h2 : ∀ b, Top2 (lg m c b) (PQ b).1 (PQ b).2 := fun b => top2_of_masked (hP b) (hQ b) (hbot b)
  have hl : ∀ b e, Ref.logits (aX m c) (aG m c) (ix2 b e) = lg m c b e := fun b e => Ref.logits_at _ _ b e
  have h2' : ∀ b, Top2 (fun e => Ref.logits (aX m c) (aG m c) (ix2 b e)) (PQ b).1 (PQ b).2 := by
    intro b
    simp only [hl]
    exact h2 b
  rw [Ref.total_at, kernel_value m c b (hP b) (hQ b) (h2 b).ne o h w]
  simp only [Ref.gates_at _ _ _ h2', hl]
  rw [sum_two (h2 b).ne]
  obtain ⟨x, hx'⟩ := hr b (PQ b).1
  obtain ⟨y, hy'⟩ := hr b (PQ b).2
  obtain ⟨g, g0, g1, e1, e2, e3⟩ := softmax2 x y
  have hg1 : gate1 m c b (PQ b).1 (PQ b).2 = (g : EReal) := by
    unfold gate1; rw [hx', hy', e1]
  have hg2 : (1 : EReal) - (g : EReal) = ((1 - g : ℝ) : EReal) := by rw [EReal.coe_sub, EReal.coe_one]
  rw [hx', hy', e2, e3, hg1, hg2, gate_distrib g g0, gate_distrib (1 - g) (by linarith)]
  rw [Ref.unit8_at, Ref.unit8_at, Ref.unit1_at]
  simp only [Ref.y8_at, Ref.y1_at]
  rfl

end Cert.Proof.Whole
-- ==== Proof.Algebraic.lean ====
module

public import proofs.«01_k».proof.Proof.Equation

/-! The kernel and the reference end with one result. -/

@[expose] public section

noncomputable section

namespace Cert.Proof.Whole

open Cert.KernelIdeal Cert.KernelIdeal.Gen
open Idealize.ShloMosaic Idealize.ShloMosaic.TcCoe Idealize.SL.Sem

theorem equal [hP : Cert.Pre_finite_gating.Facts] (m : (ℓ : Loc nD τ sig) → Buf (Elt Ideal) ℓ)
    (h : Cert.Pre_KernelIdeal_finite_gating m) (c : Dev nD) :
    Ref.total (Ref.gates (Ref.logits (aX m c) (aG m c))) (Ref.unit8 (Ref.y8 (aX m c) (aW m c) (aB m c))) (aL m c) (aM m c)
      (Ref.unit1 (Ref.y1 (aX m c) (sW m c) (sB m c))) (sL m c) (sM m c) = (outArr m c : Vec Ideal S4x96x14x14 .f32) := by
  funext i
  obtain ⟨hx, hg⟩ := finite_args m h c
  rw [eq_ix4 i]
  exact equal_at m c hx hg (i 0) (i 1) (i 2) (i 3)

theorem algebraic [hP : Cert.Pre_finite_gating.Facts] :
    Cert.algebraic_KernelIdeal_ReferenceIdeal_pre_finite_gating (hKernelIdeal := Cert.KernelIdeal.Gen.facts)
      (hReferenceIdeal := Cert.ReferenceIdeal.Gen.facts) := by
  intro m g m' g' hpre hargs
  refine ⟨fun c => outArr m c, (θ_run defs _ _).mono (fun r hr => hr.1) (run_ideal m g),
    (θ_run Cert.ReferenceIdeal.defs _ _).mono (fun r hr c => ⟨(hr c).1.trans ?_, (hr c).2⟩)
      (Cert.ReferenceIdeal.Value.run (F := Ideal) m' g')⟩
  obtain ⟨h0, h1, h2, h3, h4, h5, h6, h7, h8, h9⟩ := hargs c
  rw [Ref.result m' c, h0, h1, h2, h3, h4, h5, h6, h7, h8, h9]
  exact equal m hpre c

end Cert.Proof.Whole

end
-- ==== Proof.MoeFrame.lean ====
/-
  The expert call as a program of its own, over any float operations: from a table that names only blocks inside the
  weights it ends without fault, its arguments unchanged and every counter back at zero. What the call computes is the
  whole kernel's business; here every staging buffer may hold anything.
-/
module

public import proofs.«01_k».proof.Defs
public import proofs.«01_k».proof.Proof.Gen.Moe.Skeleton
public import proofs.«01_k».proof.Proof.Gen.Moe.Launch
public import proofs.«01_k».proof.Proof.Gen.MoeIdeal
public import Idealize.ShloMosaic.Lib.Pipeline.Frame
public import Idealize.ShloMosaic.Lib.Pipeline.FrameBody
public import Idealize.ShloMosaic.Lib.Ring
public import Idealize.ShloMosaic.Lib.ReduceAll
public import Idealize.ShloMosaic.Lib.Tactic

@[expose] public section

set_option maxRecDepth 16384

noncomputable section

namespace Cert.Proof.MoeF

open Cert.Moe Cert.Moe.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A block is the first or a later one, and a slot is the first or a later one. -/
theorem block_cond : ∀ t : Fin grid0.N, k0_cond2 (grid0.coords t) = 1#1 ↔ ¬k0_cond1 (grid0.coords t) = 1#1 := by decide +kernel
theorem slot_cond : ∀ t : Fin grid0.N, k0_cond5 (grid0.coords t) = 1#1 ↔ ¬k0_cond4 (grid0.coords t) = 1#1 := by decide +kernel

/-- A buffer at some contents. -/
abbrev some' (c : Dev nD) {sp : Space} {s : Shape} {e : EltTy} (r : Memref sig .tc sp s e) : sProp 𝕄 :=
  iprop(∃ X, owns (c : Thread nD τ) r fullShare X)

section Body
variable (c : Dev nD) (i : grid0.Coords)
  (arg3 : Memref sig .tc .smem S4x3 .i32) (harg3 : arg3.IsWhole)
  (arg4 : Memref sig .tc .vmem S1x224x4096 .f32) (harg4 : arg4.IsWhole) (arg5 : Memref sig .tc .vmem S1x96x4096 .f32) (harg5 : arg5.IsWhole)
  (arg6 : Memref sig .tc .vmem S96x4096 .f32) (harg6 : arg6.IsWhole) (arg7 : Memref sig .tc .vmem S1x1x1x96 .f32) (harg7 : arg7.IsWhole)
  (arg8 : Memref sig .tc .vmem S1x1x1x96 .f32) (harg8 : arg8.IsWhole) (arg9 : Memref sig .tc .vmem S1x1x1x96 .f32) (harg9 : arg9.IsWhole)
  (arg10 : Memref sig .tc .vmem S1x224x96 .f32) (harg10 : arg10.IsWhole) (arg11 : Memref sig .tc .vmem S3x224x96 .f32) (harg11 : arg11.IsWhole)

set_option maxHeartbeats 4000000 in
/-- The body runs from any contents of its buffers and leaves them at some contents. -/
theorem body_any (hb : k0_cond2 i = 1#1 ↔ ¬k0_cond1 i = 1#1) (hs : k0_cond5 i = 1#1 ↔ ¬k0_cond4 i = 1#1) (E : Set ℕ) (K : PUnit → sProp 𝕄) :
    iprop(some' c arg4 ∗ some' c arg5 ∗ some' c arg6 ∗ some' c arg7 ∗ some' c arg8 ∗ some' c arg9 ∗ some' c arg10 ∗ some' c arg11
        ∗ (iprop(some' c arg4 ∗ some' c arg5 ∗ some' c arg6 ∗ some' c arg7 ∗ some' c arg8 ∗ some' c arg9 ∗ some' c arg10 ∗ some' c arg11) -∗ K ⟨⟩))
      ⊢ wp frame (wpE (defs₀ (F := F)) Variants.none c none) E
          (cc0__moe_body i arg3 harg3 arg4 harg4 arg5 harg5 arg6 harg6 arg7 harg7 arg8 harg8 arg9 harg9 arg10 harg10 arg11 harg11) K := by
  simp only [cc0__moe_body_eq_skeleton]; unfold cc0__moe_body_skel
  simp only [k0_part1_eq_skeleton]
  unfold some' owns
  obtain ⟨h1, h2⟩ | ⟨h1, h2⟩ : (k0_cond1 i = 1#1 ∧ ¬k0_cond2 i = 1#1) ∨ (¬k0_cond1 i = 1#1 ∧ k0_cond2 i = 1#1) := by tauto
  all_goals obtain h3 | h3 := em (k0_cond3 i = 1#1)
  all_goals obtain ⟨h4, h5⟩ | ⟨h4, h5⟩ : (k0_cond4 i = 1#1 ∧ ¬k0_cond5 i = 1#1) ∨ (¬k0_cond4 i = 1#1 ∧ k0_cond5 i = 1#1) := by tauto
  all_goals
    iintro ⟨⟨%x4, %f4, -, H4⟩, ⟨%x5, %f5, -, H5⟩, ⟨%x6, %f6, -, H6⟩, ⟨%x7, %f7, -, H7⟩, ⟨%x8, %f8, -, H8⟩, ⟨%x9, %f9, -, H9⟩, ⟨%x10, %f10, -, H10⟩, ⟨%x11, %f11, -, H11⟩, Hk⟩
    sl_exec (disch := first | sl_exact h1 | sl_exact h2 | sl_exact h3 | sl_exact h4 | sl_exact h5)
    sl_step
    iapply Hk
    isplitl [H4]
    · iexists _; iexists f4; isplitr; · ipureintro; rfl
      iexact H4
    isplitl [H5]
    · iexists _; iexists f5; isplitr; · ipureintro; rfl
      iexact H5
    isplitl [H6]
    · iexists _; iexists f6; isplitr; · ipureintro; rfl
      iexact H6
    isplitl [H7]
    · iexists _; iexists f7; isplitr; · ipureintro; rfl
      iexact H7
    isplitl [H8]
    · iexists _; iexists f8; isplitr; · ipureintro; rfl
      iexact H8
    isplitl [H9]
    · iexists _; iexists f9; isplitr; · ipureintro; rfl
      iexact H9
    isplitl [H10]
    · iexists _; iexists _; isplitr
      swap; · iexact H10
      ipureintro; rfl
    iexists _; iexists _; isplitr
    swap; · iexact H11
    ipureintro; rfl

end Body

/-- A table of numbers below eight names blocks inside the weights. -/
theorem ok_of_lt (pf : pre0.Contents (Elt F)) (h : ∀ j, ((pf 0 : Vec F S4x3 .i32) j).toNat < 8) : ok0 pf := by
  intro i
  refine ⟨fun a => ?_, Or.inl rfl⟩
  have h1 : (i 1).val < 6 := (i 1).isLt
  match a with
  | ⟨0, _⟩ => exact (Nat.mul_one _).trans_le (h _)
  | ⟨1, _⟩ => exact (show (0 + 1) * 96 ≤ 96 by omega)
  | ⟨2, _⟩ =>
    show ((BitVec.ofNat 32 (i 1).val).toNat + 1) * 4096 ≤ 24576
    rw [BitVec.toNat_ofNat, Nat.mod_eq_of_lt (by omega)]
    omega

/-- A number at least zero and below eight, as a word. -/
theorem lt_of_cmp (x : BitVec 32) (h0 : IntOp.cmpi .sge x 0#32 = 1#1) (h8 : IntOp.cmpi .slt x 8#32 = 1#1) : x.toNat < 8 := by
  have a := IntOp.cmpi_sge.1 h0
  have b := IntOp.cmpi_slt.1 h8
  rw [show (0#32).toInt = 0 from rfl] at a
  rw [show (8#32).toInt = 8 from rfl] at b
  have e := BitVec.toInt_eq_toNat_cond x
  have l := x.isLt
  split at e <;> omega

variable (m : (ℓ : Loc nD τ sig) → Buf (Elt F) ℓ) (ρ : Dev nD → PrngReg)

/-- What the buffers hold at launch. -/
abbrev V (c : Dev nD) (b : Ref sig .tc) : Buf (Elt F) ((c : Thread nD τ).loc b) := m ((c : Thread nD τ).loc b)

/-- The table as launched. -/
def tbl : pre0.Contents (Elt F) := fun k => m ((0 : Dev nD) |>.tc.loc (pre0.ref k))

variable (hok : ok0 (tbl m))

abbrev adm : (p : Fin 1) → (pcfgs (F := F) p).Adm := fun _ => ⟨tbl m, hok⟩

/-- The proof data: the arrays as launched, and between points the scoped buffers at some contents and the table. Of what
    the windows' buffers hold nothing is used. -/
def dats : (p : Fin 1) → (c : Dev nD) → Dat τ (Elt F) Unit ℕ (UR sig nD τ) ℕ (Pipeline.pin (pcfgs (F := F)) (adm m hok) p) c := fun _ c =>
  { A := fun w => V m c (Pipeline.arrRef spec0 w)
    after := fun w t => (((cfg0 (adm m hok 0)).win w).blk t).view.read (Elt F) (V m c (Pipeline.arrRef spec0 w))
    Φ := fun _ => iprop(Pipeline.ΦA spec0 c ∗ Pipeline.ΦT pre0 (tbl m) c)
    q := fun _ => fullShare
    owed := fun _ => 0 }

/-- The staging buffers at point `t`. -/
abbrev st (w : Fin (cfg0 (adm m hok 0)).W) (t : Fin (cfg0 (adm m hok 0)).N) := ((cfg0 (adm m hok 0)).win w).stage ((cfg0 (adm m hok 0)).slots t w)

/-- The scoped buffer beside the pipeline's, the partial products' buffer, as a buffer at some contents. -/
theorem scoped_in (c : Dev nD) : (Pipeline.scopedRest (Ix := Unit) (Name := ℕ) (U := UR sig nD τ) (Lvl := ℕ) (Val := Elt F) spec0 c : sProp 𝕄)
    ⊢ some' c (Memref.whole cc0_scratch0) := by
  rw [scopedRest0_eq]
  unfold some'
  simp only [owns_whole_eq]
  iintro ⟨%f, H⟩
  iexists _; iexists f; isplitr
  · ipureintro; rfl
  iexact H
theorem scoped_out (c : Dev nD) : (some' c (Memref.whole cc0_scratch0) : sProp 𝕄)
    ⊢ Pipeline.scopedRest (Ix := Unit) (Name := ℕ) (U := UR sig nD τ) (Lvl := ℕ) (Val := Elt F) spec0 c := by
  rw [scopedRest0_eq]
  unfold some'
  simp only [owns_whole_eq]
  iintro ⟨%X, %f, -, H⟩
  iexists f; iexact H

/-- The body at a point, from buffers at any contents to buffers at some contents. -/
theorem at_point (c : Dev nD) (t : Fin (cfg0 (adm m hok 0)).N) :
    iprop((dats m hok 0 c).Φ t.castSucc ∗ (dats m hok 0 c).owesAt () t.castSucc
      ∗ some' c (st m hok 0 t) ∗ some' c (st m hok 1 t) ∗ some' c (st m hok 2 t) ∗ some' c (st m hok 3 t)
      ∗ some' c (st m hok 4 t) ∗ some' c (st m hok 5 t) ∗ some' c (st m hok 6 t))
    ⊢ wp frame (wpE (defs₀ (F := F)) Variants.none c none) Set.univ
        (defs₀ (F := F) .tc (cfg0 (adm m hok 0)).body ((cfg0 (adm m hok 0)).bodyArgs t ((cfg0 (adm m hok 0)).slots t))) (fun _ =>
      iprop((dats m hok 0 c).Φ t.succ ∗ (dats m hok 0 c).owesAt () t.succ
      ∗ some' c (st m hok 0 t) ∗ some' c (st m hok 1 t) ∗ some' c (st m hok 2 t) ∗ some' c (st m hok 3 t)
      ∗ some' c (st m hok 4 t) ∗ some' c (st m hok 5 t) ∗ some' c (st m hok 6 t))) := by
  rw [show (dats m hok 0 c).owesAt () t.succ = (dats m hok 0 c).owesAt () t.castSucc by unfold Dat.owesAt Dat.bound; dsimp only [dats]]
  dsimp only [dats]
  unfold Pipeline.ΦA
  rw [Entails.antisymm (scoped_in (F := F) c) (scoped_out c)]
  iintro ⟨⟨⟨HS, Hp⟩, HT⟩, Ho, H0, H1, H2, H3, H4, H5, H6⟩
  iapply (body_any c (grid0.coords t) _ _ _ _ _ _ _ _ _ _ _ _ _ _ _ _ _ _ (block_cond t) (slot_cond t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HT HS Hp]
  · isplitl [HS Hp]
    · isplitl [HS]; · iexact HS
      iexact Hp
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body keeps to the proof data at every point, every window forgotten. -/
theorem body_obligation (c : Dev nD) : BodyObligation (dats m hok 0 c) (defs₀ (F := F)) Variants.none () Set.univ (fun _ => true) := fun t => by
  refine triple_restated (at_point m hok c t) rfl ?_ fun _ => ?_
  · rw [bigSep_W0]; exact .rfl
  · rw [bigSep_W0]; exact .rfl

theorem starts : Pipeline.HMainP (Ix := Unit) (Name := ℕ) (U := UR sig nD τ) (Lvl := ℕ) (pcfgs (F := F)) 0 defs₀ Variants.none m (main (F := F)) (V m) :=
  Pipeline.hmainP_region pcfgs 0 defs₀ Variants.none m main fun c => (main_chain c).trans rfl

include hok in
set_option backward.isDefEq.respectTransparency.types false in
/-- The call ends without fault, its arrays as they were launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_frameP_forget (Q' := _) (pcfgs (F := F)) (adm m hok) (dats m hok) (0 : Fin 1) launch0 defs₀ Variants.none (fun _ => true) m ρ main
    (hbody := fun c => (body_obligation m hok c).loose) (hshare := fun c => (dats m hok 0 c).share_full fun _ => rfl)
    (howed := fun _ _ => rfl) (V := V m) (hmain := starts m) (hA := fun _ _ => rfl)
    (hpf := fun c k => by rw [Subsingleton.elim c 0]; rfl) (hΦ := fun _ _ => rfl)
    (hQ' := fun r h => ⟨fun c => ⟨(h.1 c).2 main_arg0 (Pipeline.mem_restRefs_of main_arg0 rfl (show ∀ w : Fin 7, (spec0 w).arr.view.ref ≠ main_arg0 by decide)),
      h.1.arr_in c 0 rfl, h.1.arr_in c 1 rfl, h.1.arr_in c 2 rfl, h.1.arr_in c 3 rfl, h.1.arr_in c 4 rfl, h.1.arr_in c 5 rfl⟩, h.2⟩)

/-- The precondition, over any float operations: the table's numbers are below eight. -/
theorem lt_of_pre [hP : Cert.Pre_experts_in_range.Facts] (t : IVec S4x3 32) (x1 : FVec F S4x224x24576 .f32) (x2 : FVec F S8x96x24576 .f32)
    (x3 : FVec F S96x24576 .f32) (x4 x5 x6 : FVec F S4x3x1x96 .f32)
    (h : Cert.Pre_experts_in_range.fn (F := F) t x1 x2 x3 x4 x5 x6 = fun _ => 1#1) (j : S4x3.Idx) : (t j).toNat < 8 := by
  have e := congrFun h (fun i => i.elim0)
  unfold Cert.Pre_experts_in_range.fn at e
  haveI : Subsingleton Cert.Pre_experts_in_range.S_.Idx := ⟨fun a b => funext fun i => i.elim0⟩
  have e' := Host.reduce_andi_all _ _ _ _ _ e j
  obtain ⟨e1, e2⟩ := IntOp.andi_eq_one.1 e'
  exact lt_of_cmp _ e1 e2

/-- From a table of experts that exist the call ends without fault, over words. -/
theorem frame_moe [hP : Cert.Pre_experts_in_range.Facts] : Cert.quiescent_Moe := fun m g h =>
  frame m g (ok_of_lt _ fun j => lt_of_pre _ _ _ _ _ _ _ (h 0) j)

/-- The call's program over the extended reals is the same program. -/
theorem defs₀_same : Cert.MoeIdeal.defs₀ (F := F) = defs₀ (F := F) := by
  funext p l
  fin_cases p <;> fin_cases l <;> rfl
theorem defs_same : Cert.MoeIdeal.defs (F := F) = defs (F := F) := congrArg (Pipeline.defs (pcfgs (F := F))) defs₀_same
theorem main_same : Cert.MoeIdeal.main (F := F) = main (F := F) := funext fun _ => rfl

/-- What a program does, an equal program does. -/
theorem moved {d d' : Defs nD τ sig (Elt F) (Pipeline.Sig Λ₀ (Fin 1) fun p => (pcfgs (F := F) p).Adm)} (hd : d = d')
    {k k' : Dev nD → Prog (TpuEff nD τ sig (Elt F) (Pipeline.Sig Λ₀ (Fin 1) fun p => (pcfgs (F := F) p).Adm) .tc) PUnit} (hk : k = k')
    {s : MemSt nD τ sig (Elt F)} {Q : PUnit × MemSt nD τ sig (Elt F) → Prop} (h : θ_run d' (onTc (τ := τ) k') s Q) : θ_run d (onTc (τ := τ) k) s Q := by
  subst hd hk; exact h

/-- The same over the extended reals. -/
theorem frame_moeIdeal [hP : Cert.Pre_experts_in_range.Facts] : Cert.quiescent_MoeIdeal (hMoeIdeal := Cert.MoeIdeal.Gen.facts) := fun m g h =>
  moved defs_same main_same <| frame (F := Ideal) m g (ok_of_lt _ fun j => lt_of_pre _ _ _ _ _ _ _ (h 0) j)

end Cert.Proof.MoeF

end
-- ==== Proof.lean ====
/-
  The claims of this certificate, each from the module that proves it.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.Pre_finite_gating
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.Pre_experts_in_range
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Algebraic
public import proofs.«01_k».proof.Proof.MoeFrame
public import Idealize.ShloMosaic.Adequacy
public import Idealize.ShloMosaic.Init

@[expose] public section

noncomputable section

namespace Cert.Proof

open Idealize.ShloMosaic Idealize.SL.Sem Cert.KernelIdeal

theorem claim : Cert.Claim := ⟨Cert.KernelIdeal.Gen.facts, Cert.ReferenceIdeal.Gen.facts, Cert.Gate.Gen.facts, Cert.GateIdeal.Gen.facts,
  Cert.Moe.Gen.facts, Cert.MoeIdeal.Gen.facts, Cert.Pre_finite_gating.Gen.facts, Cert.Pre_experts_in_range.Gen.facts,
  fun m ρ _ => Whole.frame_kernel m ρ, fun m ρ _ => Whole.frame_kernel m ρ,
  Whole.frame_reference, fun m ρ _ => Whole.frame_reference m ρ trivial,
  fun m ρ _ => Cert.Gate.Gen.frame m ρ, fun m ρ _ => Cert.GateIdeal.Gen.frame m ρ,
  MoeF.frame_moe, MoeF.frame_moeIdeal,
  Whole.algebraic (hP := Cert.Pre_finite_gating.Gen.facts),
  ⟨IdealRules.named_const.statement _ _ _ _ _ rfl, IdealRules.named_const.statement _ _ _ _ _ rfl⟩, trivial⟩

end Cert.Proof

end
